-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4x4x1x30x30 : Shape := ⟨5, ![4, 4, 1, 30, 30]⟩
abbrev S3x1 : Shape := ⟨2, ![3, 1]⟩
abbrev S3 : Shape := ⟨1, ![3]⟩
abbrev S1x1 : Shape := ⟨2, ![1, 1]⟩
abbrev S1 : Shape := ⟨1, ![1]⟩
abbrev S_ : Shape := ⟨0, ![]⟩
abbrev S16x900x900 : Shape := ⟨3, ![16, 900, 900]⟩
abbrev S16x900 : Shape := ⟨2, ![16, 900]⟩
abbrev S16x900x1 : Shape := ⟨3, ![16, 900, 1]⟩

class Facts : Prop where
  bcast_S_S16x900x900 : S_.BroadcastsInDim S16x900x900 (![] : Fin 0 → Fin S16x900x900.rank)
  reducesTo_S16x900x900_S16x900_d2 : S16x900x900.ReducesTo [2] S16x900
  h_S_ : 0 < S_.numel
  bcast_S16x900_S16x900x1_0_1 : S16x900.BroadcastsInDim S16x900x1 (![0, 1] : Fin 2 → Fin S16x900x1.rank)
  bcast_S_S16x900x1 : S_.BroadcastsInDim S16x900x1 (![] : Fin 0 → Fin S16x900x1.rank)
  bcast_S16x900x1_S16x900x900_0_1_2 : S16x900x1.BroadcastsInDim S16x900x900 (![0, 1, 2] : Fin 3 → Fin S16x900x900.rank)
  natLt_1_32 : 1 < 32
  bcast_S_S4x4x1x30x30 : S_.BroadcastsInDim S4x4x1x30x30 (![] : Fin 0 → Fin S4x4x1x30x30.rank)
  reducesTo_S4x4x1x30x30_S_d0_1_2_3_4 : S4x4x1x30x30.ReducesTo [0, 1, 2, 3, 4] S_
  bcast_S_S3x1 : S_.BroadcastsInDim S3x1 (![] : Fin 0 → Fin S3x1.rank)
  reducesTo_S3x1_S_d0_1 : S3x1.ReducesTo [0, 1] S_
  bcast_S_S3 : S_.BroadcastsInDim S3 (![] : Fin 0 → Fin S3.rank)
  reducesTo_S3_S_d0 : S3.ReducesTo [0] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_
  reducesTo_S16x900x900_S_d0_1_2 : S16x900x900.ReducesTo [0, 1, 2] S_
  bcast_S_S16x900 : S_.BroadcastsInDim S16x900 (![] : Fin 0 → Fin S16x900.rank)
  reducesTo_S16x900_S_d0_1 : S16x900.ReducesTo [0, 1] S_

variable [Facts]

def fn_part3 {F : FTy → Type} [FloatOps F] (main_v14 : IVec S16x900x900 32) (main_v47 : IVec S_ 1) (main_v49 : IVec S16x900x900 1) (main_v51 : IVec S16x900x900 1) : IVec S_ 1 :=
  let main_v52 : IVec S16x900x900 1 := andi main_v49 main_v51
  let main_c_18 : IVec S_ 1 := constantI S_ 1 1#1
  let main_v53 : IVec S_ 1 := (fun x v => Host.reduce IntOp.andi x v reducesTo_S16x900x900_S_d0_1_2 h_S_) main_v52 main_c_18
  let main_v54 : IVec S_ 1 := andi main_v47 main_v53
  let main_c_19 : IVec S_ 32 := constantI S_ 32 0#32
  let main_v55 : IVec S16x900 32 := (fun x v => Host.reduce IntOp.addi x v reducesTo_S16x900x900_S16x900_d2 h_S_) main_v14 main_c_19
  let main_c_20 : IVec S_ 32 := constantI S_ 32 24#32
  let main_v56 : IVec S16x900 32 := broadcastInDim S16x900 ![] bcast_S_S16x900 main_c_20
  let main_v57 : IVec S16x900 1 := cmpi .sle main_v55 main_v56
  let main_c_21 : IVec S_ 1 := constantI S_ 1 1#1
  let main_v58 : IVec S_ 1 := (fun x v => Host.reduce IntOp.andi x v reducesTo_S16x900_S_d0_1 h_S_) main_v57 main_c_21
  let main_v59 : IVec S_ 1 := andi main_v54 main_v58
  main_v59

def fn_part2 {F : FTy → Type} [FloatOps F] (main_arg5 : FVec F S1 .f32) (main_arg7 : FVec F S1 .f32) (main_arg9 : FVec F S16x900x900 .f32) (main_v14 : IVec S16x900x900 32) (main_v33 : IVec S_ 1) (main_v34 : FVec F S1x1 .f32) (main_cst_10 : FVec F S_ .f32) : IVec S_ 1 :=
  let main_v35 : FVec F S1x1 .f32 := broadcastInDim S1x1 ![] bcast_S_S1x1 main_cst_10
  let main_v36 : IVec S1x1 1 := cmpf .olt main_v34 main_v35
  let main_c_11 : IVec S_ 1 := constantI S_ 1 1#1
  let main_v37 : IVec S_ 1 := (fun x v => Host.reduce IntOp.andi x v reducesTo_S1x1_S_d0_1 h_S_) main_v36 main_c_11
  let main_v38 : IVec S_ 1 := andi main_v33 main_v37
  let main_v39 : FVec F S1 .f32 := Host.absf main_arg5
  let main_cst_12 : FVec F S_ .f32 := constant S_ .f32 0x7F800000#32
  let main_v40 : FVec F S1 .f32 := broadcastInDim S1 ![] bcast_S_S1 main_cst_12
  let main_v41 : IVec S1 1 := cmpf .olt main_v39 main_v40
  let main_c_13 : IVec S_ 1 := constantI S_ 1 1#1
  let main_v42 : IVec S_ 1 := (fun x v => Host.reduce IntOp.andi x v reducesTo_S1_S_d0 h_S_) main_v41 main_c_13
  let main_v43 : IVec S_ 1 := andi main_v38 main_v42
  let main_cst_14 : FVec F S_ .f32 := constant S_ .f32 0x00000000#32
  let main_v44 : FVec F S1 .f32 := broadcastInDim S1 ![] bcast_S_S1 main_cst_14
  let main_v45 : IVec S1 1 := cmpf .oeq main_arg7 main_v44
  let main_c_15 : IVec S_ 1 := constantI S_ 1 1#1
  let main_v46 : IVec S_ 1 := (fun x v => Host.reduce IntOp.andi x v reducesTo_S1_S_d0 h_S_) main_v45 main_c_15
  let main_v47 : IVec S_ 1 := andi main_v43 main_v46
  let main_cst_16 : FVec F S_ .f32 := constant S_ .f32 0x00000000#32
  let main_v48 : FVec F S16x900x900 .f32 := broadcastInDim S16x900x900 ![] bcast_S_S16x900x900 main_cst_16
  let main_v49 : IVec S16x900x900 1 := cmpf .oge main_arg9 main_v48
  let main_cst_17 : FVec F S_ .f32 := constant S_ .f32 0x3F800000#32
  let main_v50 : FVec F S16x900x900 .f32 := broadcastInDim S16x900x900 ![] bcast_S_S16x900x900 main_cst_17
  let main_v51 : IVec S16x900x900 1 := cmpf .olt main_arg9 main_v50
  fn_part3 (F := F) main_v14 main_v47 main_v49 main_v51

def fn_part1 {F : FTy → Type} [FloatOps F] (main_arg1 : FVec F S4x4x1x30x30 .f32) (main_arg2 : FVec F S3x1 .f32) (main_arg3 : FVec F S3 .f32) (main_arg4 : FVec F S1x1 .f32) (main_arg5 : FVec F S1 .f32) (main_arg7 : FVec F S1 .f32) (main_arg9 : FVec F S16x900x900 .f32) (main_v14 : IVec S16x900x900 32) (main_v17 : IVec S4x4x1x30x30 1) (main_c : IVec S_ 1) : IVec S_ 1 :=
  let main_v18 : IVec S_ 1 := (fun x v => Host.reduce IntOp.andi x v reducesTo_S4x4x1x30x30_S_d0_1_2_3_4 h_S_) main_v17 main_c
  let main_v19 : FVec F S4x4x1x30x30 .f32 := Host.absf main_arg1
  let main_cst_4 : FVec F S_ .f32 := constant S_ .f32 0x7F800000#32
  let main_v20 : FVec F S4x4x1x30x30 .f32 := broadcastInDim S4x4x1x30x30 ![] bcast_S_S4x4x1x30x30 main_cst_4
  let main_v21 : IVec S4x4x1x30x30 1 := cmpf .olt main_v19 main_v20
  let main_c_5 : IVec S_ 1 := constantI S_ 1 1#1
  let main_v22 : IVec S_ 1 := (fun x v => Host.reduce IntOp.andi x v reducesTo_S4x4x1x30x30_S_d0_1_2_3_4 h_S_) main_v21 main_c_5
  let main_v23 : IVec S_ 1 := andi main_v18 main_v22
  let main_v24 : FVec F S3x1 .f32 := Host.absf main_arg2
  let main_cst_6 : FVec F S_ .f32 := constant S_ .f32 0x7F800000#32
  let main_v25 : FVec F S3x1 .f32 := broadcastInDim S3x1 ![] bcast_S_S3x1 main_cst_6
  let main_v26 : IVec S3x1 1 := cmpf .olt main_v24 main_v25
  let main_c_7 : IVec S_ 1 := constantI S_ 1 1#1
  let main_v27 : IVec S_ 1 := (fun x v => Host.reduce IntOp.andi x v reducesTo_S3x1_S_d0_1 h_S_) main_v26 main_c_7
  let main_v28 : IVec S_ 1 := andi main_v23 main_v27
  let main_v29 : FVec F S3 .f32 := Host.absf main_arg3
  let main_cst_8 : FVec F S_ .f32 := constant S_ .f32 0x7F800000#32
  let main_v30 : FVec F S3 .f32 := broadcastInDim S3 ![] bcast_S_S3 main_cst_8
  let main_v31 : IVec S3 1 := cmpf .olt main_v29 main_v30
  let main_c_9 : IVec S_ 1 := constantI S_ 1 1#1
  let main_v32 : IVec S_ 1 := (fun x v => Host.reduce IntOp.andi x v reducesTo_S3_S_d0 h_S_) main_v31 main_c_9
  let main_v33 : IVec S_ 1 := andi main_v28 main_v32
  let main_v34 : FVec F S1x1 .f32 := Host.absf main_arg4
  let main_cst_10 : FVec F S_ .f32 := constant S_ .f32 0x7F800000#32
  fn_part2 (F := F) main_arg5 main_arg7 main_arg9 main_v14 main_v33 main_v34 main_cst_10

def fn {F : FTy → Type} [FloatOps F] (main_arg0 : FVec F S4x4x1x30x30 .f32) (main_arg1 : FVec F S4x4x1x30x30 .f32) (main_arg2 : FVec F S3x1 .f32) (main_arg3 : FVec F S3 .f32) (main_arg4 : FVec F S1x1 .f32) (main_arg5 : FVec F S1 .f32) (main_arg6 : FVec F S1 .f32) (main_arg7 : FVec F S1 .f32) (main_arg8 : FVec F S_ .f32) (main_arg9 : FVec F S16x900x900 .f32) : IVec S_ 1 :=
  let main_cst : FVec F S_ .f32 := constant S_ .f32 0x322BCC77#32
  let main_v0 : FVec F S16x900x900 .f32 := broadcastInDim S16x900x900 ![] bcast_S_S16x900x900 main_cst
  let main_v1 : FVec F S16x900x900 .f32 := addf main_arg9 main_v0
  let main_v2 : FVec F S16x900x900 .f32 := Host.log main_v1
  let main_v3 : FVec F S16x900x900 .f32 := Host.negf main_v2
  let main_cst_0 : FVec F S_ .f32 := constant S_ .f32 0x322BCC77#32
  let main_v4 : FVec F S16x900x900 .f32 := broadcastInDim S16x900x900 ![] bcast_S_S16x900x900 main_cst_0
  let main_v5 : FVec F S16x900x900 .f32 := addf main_v3 main_v4
  let main_v6 : FVec F S16x900x900 .f32 := Host.log main_v5
  let main_v7 : FVec F S16x900x900 .f32 := Host.negf main_v6
  let main_cst_1 : FVec F S_ .f32 := constant S_ .f32 0xFF800000#32
  let main_v8 : FVec F S16x900 .f32 := (fun x v => Host.reduce FloatOps.maximumf x v reducesTo_S16x900x900_S16x900_d2 h_S_) main_v7 main_cst_1
  let main_v9 : FVec F S16x900x1 .f32 := broadcastInDim S16x900x1 ![0, 1] bcast_S16x900_S16x900x1_0_1 main_v8
  let main_cst_2 : FVec F S_ .f32 := constant S_ .f32 0x3F800000#32
  let main_v10 : FVec F S16x900x1 .f32 := broadcastInDim S16x900x1 ![] bcast_S_S16x900x1 main_cst_2
  let main_v11 : FVec F S16x900x1 .f32 := subf main_v9 main_v10
  let main_v12 : FVec F S16x900x900 .f32 := broadcastInDim S16x900x900 ![0, 1, 2] bcast_S16x900x1_S16x900x900_0_1_2 main_v11
  let main_v13 : IVec S16x900x900 1 := cmpf .ogt main_v7 main_v12
  let main_v14 : IVec S16x900x900 32 := (extui 32 · natLt_1_32) main_v13
  let main_v15 : FVec F S4x4x1x30x30 .f32 := Host.absf main_arg0
  let main_cst_3 : FVec F S_ .f32 := constant S_ .f32 0x7F800000#32
  let main_v16 : FVec F S4x4x1x30x30 .f32 := broadcastInDim S4x4x1x30x30 ![] bcast_S_S4x4x1x30x30 main_cst_3
  let main_v17 : IVec S4x4x1x30x30 1 := cmpf .olt main_v15 main_v16
  let main_c : IVec S_ 1 := constantI S_ 1 1#1
  fn_part1 (F := F) main_arg1 main_arg2 main_arg3 main_arg4 main_arg5 main_arg7 main_arg9 main_v14 main_v17 main_c
-- ==== Kernel.lean ====
abbrev S4x4x1x30x30 : Shape := ⟨5, ![4, 4, 1, 30, 30]⟩
abbrev S3x1 : Shape := ⟨2, ![3, 1]⟩
abbrev S3 : Shape := ⟨1, ![3]⟩
abbrev S1x1 : Shape := ⟨2, ![1, 1]⟩
abbrev S1 : Shape := ⟨1, ![1]⟩
abbrev S_ : Shape := ⟨0, ![]⟩
abbrev S16x900x900 : Shape := ⟨3, ![16, 900, 900]⟩
abbrev S16x900x24 : Shape := ⟨3, ![16, 900, 24]⟩
abbrev S16x900x24x1 : Shape := ⟨4, ![16, 900, 24, 1]⟩
abbrev S1x1x1x1 : Shape := ⟨4, ![1, 1, 1, 1]⟩
abbrev S16x900 : Shape := ⟨2, ![16, 900]⟩
abbrev S4 : Shape := ⟨1, ![4]⟩
abbrev S16x21600 : Shape := ⟨2, ![16, 21600]⟩
abbrev S16x21600x1 : Shape := ⟨3, ![16, 21600, 1]⟩
abbrev S1x1x1 : Shape := ⟨3, ![1, 1, 1]⟩
abbrev S16x900x1 : Shape := ⟨3, ![16, 900, 1]⟩
abbrev S16x1x900 : Shape := ⟨3, ![16, 1, 900]⟩
abbrev S1x900x1 : Shape := ⟨3, ![1, 900, 1]⟩
abbrev S1x1x900 : Shape := ⟨3, ![1, 1, 900]⟩
abbrev S1x900x24 : Shape := ⟨3, ![1, 900, 24]⟩
abbrev S900x1 : Shape := ⟨2, ![900, 1]⟩
abbrev S900 : Shape := ⟨1, ![900]⟩
abbrev S1x900 : Shape := ⟨2, ![1, 900]⟩
abbrev S900x900 : Shape := ⟨2, ![900, 900]⟩
abbrev S900x24 : Shape := ⟨2, ![900, 24]⟩
abbrev S4x4x900 : Shape := ⟨3, ![4, 4, 900]⟩
abbrev S4x900x4 : Shape := ⟨3, ![4, 900, 4]⟩
abbrev S4x1x900x4 : Shape := ⟨4, ![4, 1, 900, 4]⟩

abbrev nBuf : Space → Nat
  | .hbm => 117
  | .vmem => 12
  | .smem => 1
  | _ => 0

abbrev bufTy : (tb : Table) → Fin (tcTables nBuf tb) → BufTy
  | .hbm, ⟨0, _⟩ => ⟨S4x4x1x30x30, .f32⟩
  | .hbm, ⟨1, _⟩ => ⟨S4x4x1x30x30, .f32⟩
  | .hbm, ⟨2, _⟩ => ⟨S3x1, .f32⟩
  | .hbm, ⟨3, _⟩ => ⟨S3, .f32⟩
  | .hbm, ⟨4, _⟩ => ⟨S1x1, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S_, .f32⟩
  | .hbm, ⟨9, _⟩ => ⟨S16x900x900, .f32⟩
  | .hbm, ⟨10, _⟩ => ⟨S_, .f32⟩
  | .hbm, ⟨11, _⟩ => ⟨S16x900x900, .f32⟩
  | .hbm, ⟨12, _⟩ => ⟨S16x900x900, .f32⟩
  | .hbm, ⟨13, _⟩ => ⟨S16x900x900, .f32⟩
  | .hbm, ⟨14, _⟩ => ⟨S16x900x900, .f32⟩
  | .hbm, ⟨15, _⟩ => ⟨S_, .f32⟩
  | .hbm, ⟨16, _⟩ => ⟨S16x900x900, .f32⟩
  | .hbm, ⟨17, _⟩ => ⟨S16x900x900, .f32⟩
  | .hbm, ⟨18, _⟩ => ⟨S16x900x900, .f32⟩
  | .hbm, ⟨19, _⟩ => ⟨S16x900x900, .f32⟩
  | .hbm, ⟨20, _⟩ => ⟨S16x900x24, .f32⟩
  | .hbm, ⟨21, _⟩ => ⟨S16x900x24, .i32⟩
  | .hbm, ⟨22, _⟩ => ⟨S16x900x24, .i32⟩
  | .hbm, ⟨23, _⟩ => ⟨S16x900x24, .i32⟩
  | .hbm, ⟨24, _⟩ => ⟨S16x900x24, .i32⟩
  | .hbm, ⟨25, _⟩ => ⟨S_, .i32⟩
  | .hbm, ⟨26, _⟩ => ⟨S16x900x24, .i32⟩
  | .hbm, ⟨27, _⟩ => ⟨S16x900x24, .i1⟩
  | .hbm, ⟨28, _⟩ => ⟨S_, .i32⟩
  | .hbm, ⟨29, _⟩ => ⟨S16x900x24, .i32⟩
  | .hbm, ⟨30, _⟩ => ⟨S16x900x24, .i32⟩
  | .hbm, ⟨31, _⟩ => ⟨S16x900x24, .i32⟩
  | .hbm, ⟨32, _⟩ => ⟨S16x900x24x1, .i32⟩
  | .hbm, ⟨33, _⟩ => ⟨S1, .i32⟩
  | .hbm, ⟨34, _⟩ => ⟨S_, .i32⟩
  | .hbm, ⟨35, _⟩ => ⟨S16x900x24x1, .i32⟩
  | .hbm, ⟨36, _⟩ => ⟨S16x900x24x1, .i1⟩
  | .hbm, ⟨37, _⟩ => ⟨S1x1x1x1, .i32⟩
  | .hbm, ⟨38, _⟩ => ⟨S16x900x24x1, .i32⟩
  | .hbm, ⟨39, _⟩ => ⟨S16x900x24x1, .i1⟩
  | .hbm, ⟨40, _⟩ => ⟨S16x900x24x1, .i1⟩
  | .hbm, ⟨41, _⟩ => ⟨S_, .i1⟩
  | .hbm, ⟨42, _⟩ => ⟨S16x900x24, .i1⟩
  | .hbm, ⟨43, _⟩ => ⟨S16x900x24, .i32⟩
  | .hbm, ⟨44, _⟩ => ⟨S_, .i32⟩
  | .hbm, ⟨45, _⟩ => ⟨S16x900x24, .i32⟩
  | .hbm, ⟨46, _⟩ => ⟨S16x900x24, .i32⟩
  | .hbm, ⟨47, _⟩ => ⟨S_, .i32⟩
  | .hbm, ⟨48, _⟩ => ⟨S16x900x24, .i32⟩
  | .hbm, ⟨49, _⟩ => ⟨S16x900x24, .i1⟩
  | .hbm, ⟨50, _⟩ => ⟨S_, .i32⟩
  | .hbm, ⟨51, _⟩ => ⟨S16x900x24, .i32⟩
  | .hbm, ⟨52, _⟩ => ⟨S16x900x24, .i32⟩
  | .hbm, ⟨53, _⟩ => ⟨S16x900x24, .i32⟩
  | .hbm, ⟨54, _⟩ => ⟨S16x900x24x1, .i32⟩
  | .hbm, ⟨55, _⟩ => ⟨S1, .i32⟩
  | .hbm, ⟨56, _⟩ => ⟨S_, .i32⟩
  | .hbm, ⟨57, _⟩ => ⟨S16x900x24x1, .i32⟩
  | .hbm, ⟨58, _⟩ => ⟨S16x900x24x1, .i1⟩
  | .hbm, ⟨59, _⟩ => ⟨S1x1x1x1, .i32⟩
  | .hbm, ⟨60, _⟩ => ⟨S16x900x24x1, .i32⟩
  | .hbm, ⟨61, _⟩ => ⟨S16x900x24x1, .i1⟩
  | .hbm, ⟨62, _⟩ => ⟨S16x900x24x1, .i1⟩
  | .hbm, ⟨63, _⟩ => ⟨S_, .i1⟩
  | .hbm, ⟨64, _⟩ => ⟨S16x900x24, .i1⟩
  | .hbm, ⟨65, _⟩ => ⟨S16x900x24, .f32⟩
  | .hbm, ⟨66, _⟩ => ⟨S_, .f32⟩
  | .hbm, ⟨67, _⟩ => ⟨S16x900x24, .f32⟩
  | .hbm, ⟨68, _⟩ => ⟨S16x900x24, .f32⟩
  | .hbm, ⟨69, _⟩ => ⟨S4x4x1x30x30, .f32⟩
  | .hbm, ⟨70, _⟩ => ⟨S16x900, .f32⟩
  | .hbm, ⟨71, _⟩ => ⟨S4x4x1x30x30, .f32⟩
  | .hbm, ⟨72, _⟩ => ⟨S16x900, .f32⟩
  | .hbm, ⟨73, _⟩ => ⟨S1x1, .f32⟩
  | .hbm, ⟨74, _⟩ => ⟨S_, .f32⟩
  | .hbm, ⟨75, _⟩ => ⟨S1x1, .f32⟩
  | .hbm, ⟨76, _⟩ => ⟨S_, .f32⟩
  | .hbm, ⟨77, _⟩ => ⟨S1, .f32⟩
  | .hbm, ⟨78, _⟩ => ⟨S_, .f32⟩
  | .hbm, ⟨79, _⟩ => ⟨S1, .f32⟩
  | .hbm, ⟨80, _⟩ => ⟨S_, .f32⟩
  | .hbm, ⟨81, _⟩ => ⟨S1, .f32⟩
  | .hbm, ⟨82, _⟩ => ⟨S1, .f32⟩
  | .hbm, ⟨83, _⟩ => ⟨S1, .f32⟩
  | .hbm, ⟨84, _⟩ => ⟨S1, .f32⟩
  | .hbm, ⟨85, _⟩ => ⟨S4, .f32⟩
  | .hbm, ⟨86, _⟩ => ⟨S16x21600, .i32⟩
  | .hbm, ⟨87, _⟩ => ⟨S_, .i32⟩
  | .hbm, ⟨88, _⟩ => ⟨S16x21600, .i32⟩
  | .hbm, ⟨89, _⟩ => ⟨S16x21600, .i1⟩
  | .hbm, ⟨90, _⟩ => ⟨S_, .i32⟩
  | .hbm, ⟨91, _⟩ => ⟨S16x21600, .i32⟩
  | .hbm, ⟨92, _⟩ => ⟨S16x21600, .i32⟩
  | .hbm, ⟨93, _⟩ => ⟨S16x21600, .i32⟩
  | .hbm, ⟨94, _⟩ => ⟨S16x21600x1, .i32⟩
  | .hbm, ⟨95, _⟩ => ⟨S1, .i32⟩
  | .hbm, ⟨96, _⟩ => ⟨S_, .i32⟩
  | .hbm, ⟨97, _⟩ => ⟨S16x21600x1, .i32⟩
  | .hbm, ⟨98, _⟩ => ⟨S16x21600x1, .i1⟩
  | .hbm, ⟨99, _⟩ => ⟨S1x1x1, .i32⟩
  | .hbm, ⟨100, _⟩ => ⟨S16x21600x1, .i32⟩
  | .hbm, ⟨101, _⟩ => ⟨S16x21600x1, .i1⟩
  | .hbm, ⟨102, _⟩ => ⟨S16x21600x1, .i1⟩
  | .hbm, ⟨103, _⟩ => ⟨S_, .i1⟩
  | .hbm, ⟨104, _⟩ => ⟨S16x21600, .i1⟩
  | .hbm, ⟨105, _⟩ => ⟨S16x21600, .f32⟩
  | .hbm, ⟨106, _⟩ => ⟨S_, .f32⟩
  | .hbm, ⟨107, _⟩ => ⟨S16x21600, .f32⟩
  | .hbm, ⟨108, _⟩ => ⟨S16x21600, .f32⟩
  | .hbm, ⟨109, _⟩ => ⟨S16x900x24, .f32⟩
  | .hbm, ⟨110, _⟩ => ⟨S16x900x1, .f32⟩
  | .hbm, ⟨111, _⟩ => ⟨S16x1x900, .f32⟩
  | .hbm, ⟨112, _⟩ => ⟨S16x900x24, .f32⟩
  | .hbm, ⟨113, _⟩ => ⟨S16x1x900, .f32⟩
  | .hbm, ⟨114, _⟩ => ⟨S4x4x900, .f32⟩
  | .hbm, ⟨115, _⟩ => ⟨S4x900x4, .f32⟩
  | .hbm, ⟨116, _⟩ => ⟨S4x1x900x4, .f32⟩
  | .local _ .vmem, ⟨0, _⟩ => ⟨S1x900x1, .f32⟩
  | .local _ .vmem, ⟨1, _⟩ => ⟨S1x900x1, .f32⟩
  | .local _ .vmem, ⟨2, _⟩ => ⟨S1x1x900, .f32⟩
  | .local _ .vmem, ⟨3, _⟩ => ⟨S1x1x900, .f32⟩
  | .local _ .vmem, ⟨4, _⟩ => ⟨S1x900x24, .f32⟩
  | .local _ .vmem, ⟨5, _⟩ => ⟨S1x900x24, .f32⟩
  | .local _ .vmem, ⟨6, _⟩ => ⟨S1x900x24, .f32⟩
  | .local _ .vmem, ⟨7, _⟩ => ⟨S1x900x24, .f32⟩
  | .local _ .vmem, ⟨8, _⟩ => ⟨S1x900x24, .f32⟩
  | .local _ .vmem, ⟨9, _⟩ => ⟨S1x900x24, .f32⟩
  | .local _ .vmem, ⟨10, _⟩ => ⟨S1x1x900, .f32⟩
  | .local _ .vmem, ⟨11, _⟩ => ⟨S1x1x900, .f32⟩
  | .local _ .smem, ⟨0, _⟩ => ⟨S4, .f32⟩
  | _, _ => ⟨S4x4x1x30x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_values : Ref sig .tc := ⟨.hbm, 20, rfl⟩
abbrev main_indices : Ref sig .tc := ⟨.hbm, 21, rfl⟩
abbrev main_call0_v0 : Ref sig .tc := ⟨.hbm, 22, rfl⟩
abbrev main_call0_v1_0 : Ref sig .tc := ⟨.hbm, 23, rfl⟩
abbrev main_v8 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_c_4 : Ref sig .tc := ⟨.hbm, 44, rfl⟩
abbrev main_call1_v14 : Ref sig .tc := ⟨.hbm, 45, rfl⟩
abbrev main_v9 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_cst : Ref sig .tc := ⟨.hbm, 66, rfl⟩
abbrev main_call2_v14 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_cst : Ref sig .tc := ⟨.hbm, 106, rfl⟩
abbrev main_call3_v14 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x900x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x900 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x900x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x900x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x900x24 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x900 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x4x1x30x30 : Shape := ⟨5, ![4, 4, 1, 30, 30]⟩
abbrev S3x1 : Shape := ⟨2, ![3, 1]⟩
abbrev S3 : Shape := ⟨1, ![3]⟩
abbrev S1x1 : Shape := ⟨2, ![1, 1]⟩
abbrev S1 : Shape := ⟨1, ![1]⟩
abbrev S_ : Shape := ⟨0, ![]⟩
abbrev S16x900x900 : Shape := ⟨3, ![16, 900, 900]⟩
abbrev S16x900x1 : Shape := ⟨3, ![16, 900, 1]⟩
abbrev S1x1x1 : Shape := ⟨3, ![1, 1, 1]⟩
abbrev S16x900 : Shape := ⟨2, ![16, 900]⟩
abbrev S16x1x900x900 : Shape := ⟨4, ![16, 1, 900, 900]⟩
abbrev S1x1x900 : Shape := ⟨3, ![1, 1, 900]⟩
abbrev S4x4x900 : Shape := ⟨3, ![4, 4, 900]⟩
abbrev S4x900x4 : Shape := ⟨3, ![4, 900, 4]⟩
abbrev S4x1x900x4 : Shape := ⟨4, ![4, 1, 900, 4]⟩

abbrev nBuf : Space → Nat
  | .hbm => 157
  | .vmem => 0
  | .smem => 0
  | _ => 0

abbrev hbmTy0_0 (i : Nat) : BufTy := match i % 128 with
  | 0 => ⟨S4x4x1x30x30, .f32⟩
  | 1 => ⟨S4x4x1x30x30, .f32⟩
  | 2 => ⟨S3x1, .f32⟩
  | 3 => ⟨S3, .f32⟩
  | 4 => ⟨S1x1, .f32⟩
  | 5 => ⟨S1, .f32⟩
  | 6 => ⟨S1, .f32⟩
  | 7 => ⟨S1, .f32⟩
  | 8 => ⟨S_, .f32⟩
  | 9 => ⟨S16x900x900, .f32⟩
  | 10 => ⟨S4x4x1x30x30, .f32⟩
  | 11 => ⟨S16x900x1, .f32⟩
  | 12 => ⟨S4x4x1x30x30, .f32⟩
  | 13 => ⟨S16x900x1, .f32⟩
  | 14 => ⟨S1x1, .f32⟩
  | 15 => ⟨S1x1, .f32⟩
  | 16 => ⟨S1x1, .f32⟩
  | 17 => ⟨S1, .f32⟩
  | 18 => ⟨S1, .f32⟩
  | 19 => ⟨S1, .f32⟩
  | 20 => ⟨S1x1, .f32⟩
  | 21 => ⟨S16x900x1, .f32⟩
  | 22 => ⟨S1x1x1, .f32⟩
  | 23 => ⟨S16x900x1, .f32⟩
  | 24 => ⟨S16x900x1, .f32⟩
  | 25 => ⟨S1x1, .f32⟩
  | 26 => ⟨S16x900x1, .f32⟩
  | 27 => ⟨S1x1x1, .f32⟩
  | 28 => ⟨S16x900x1, .f32⟩
  | 29 => ⟨S16x900x1, .f32⟩
  | 30 => ⟨S1x1, .f32⟩
  | 31 => ⟨S16x900x1, .f32⟩
  | 32 => ⟨S1x1x1, .f32⟩
  | 33 => ⟨S16x900x1, .f32⟩
  | 34 => ⟨S16x900x1, .f32⟩
  | 35 => ⟨S16x900x900, .f32⟩
  | 36 => ⟨S_, .f32⟩
  | 37 => ⟨S_, .f32⟩
  | 38 => ⟨S16x900x900, .f32⟩
  | 39 => ⟨S16x900x900, .f32⟩
  | 40 => ⟨S_, .f32⟩
  | 41 => ⟨S16x900, .f32⟩
  | 42 => ⟨S_, .f32⟩
  | 43 => ⟨S16x900, .f32⟩
  | 44 => ⟨S16x900, .f32⟩
  | 45 => ⟨S16x900x1, .f32⟩
  | 46 => ⟨S16x900x900, .f32⟩
  | 47 => ⟨S16x900x900, .f32⟩
  | 48 => ⟨S16x900x900, .f32⟩
  | 49 => ⟨S_, .f32⟩
  | 50 => ⟨S16x900, .f32⟩
  | 51 => ⟨S16x900x1, .f32⟩
  | 52 => ⟨S16x900x900, .f32⟩
  | 53 => ⟨S16x900x900, .f32⟩
  | 54 => ⟨S16x900x1, .f32⟩
  | 55 => ⟨S1x1, .f32⟩
  | 56 => ⟨S16x900x1, .f32⟩
  | 57 => ⟨S1x1x1, .f32⟩
  | 58 => ⟨S16x900x1, .f32⟩
  | 59 => ⟨S16x900x1, .f32⟩
  | 60 => ⟨S16x1x900x900, .f32⟩
  | 61 => ⟨S16x900x1, .f32⟩
  | 62 => ⟨S_, .f32⟩
  | 63 => ⟨S16x900, .f32⟩
  | 64 => ⟨S16x900x1, .f32⟩
  | 65 => ⟨S_, .f32⟩
  | 66 => ⟨S16x900x1, .f32⟩
  | 67 => ⟨S16x900x1, .f32⟩
  | 68 => ⟨S16x900x1, .f32⟩
  | 69 => ⟨S16x900x1, .f32⟩
  | 70 => ⟨S_, .f32⟩
  | 71 => ⟨S16x900, .f32⟩
  | 72 => ⟨S16x900x1, .f32⟩
  | 73 => ⟨S_, .f32⟩
  | 74 => ⟨S16x900x1, .f32⟩
  | 75 => ⟨S16x900x1, .f32⟩
  | 76 => ⟨S16x900x1, .f32⟩
  | 77 => ⟨S_, .f32⟩
  | 78 => ⟨S16x900x1, .f32⟩
  | 79 => ⟨S16x900x1, .f32⟩
  | 80 => ⟨S16x900x1, .f32⟩
  | 81 => ⟨S16x900x1, .f32⟩
  | 82 => ⟨S1x1x1, .f32⟩
  | 83 => ⟨S16x900x1, .f32⟩
  | 84 => ⟨S16x900x1, .f32⟩
  | 85 => ⟨S1x1x1, .f32⟩
  | 86 => ⟨S16x900x1, .f32⟩
  | 87 => ⟨S16x900x1, .f32⟩
  | 88 => ⟨S16x900, .f32⟩
  | 89 => ⟨S_, .f32⟩
  | 90 => ⟨S16x900, .f32⟩
  | 91 => ⟨S16x900, .i1⟩
  | 92 => ⟨S_, .f32⟩
  | 93 => ⟨S16x900x900, .f32⟩
  | 94 => ⟨S_, .f32⟩
  | 95 => ⟨S16x900x900, .f32⟩
  | 96 => ⟨S16x900x900, .f32⟩
  | 97 => ⟨S_, .f32⟩
  | 98 => ⟨S16x900x900, .f32⟩
  | 99 => ⟨S16x900x900, .f32⟩
  | 100 => ⟨S16x900x900, .f32⟩
  | 101 => ⟨S16x900x900, .f32⟩
  | 102 => ⟨S_, .f32⟩
  | 103 => ⟨S16x900x900, .f32⟩
  | 104 => ⟨S16x900x900, .f32⟩
  | 105 => ⟨S16x900x900, .f32⟩
  | 106 => ⟨S16x900x900, .f32⟩
  | 107 => ⟨S16x900x900, .f32⟩
  | 108 => ⟨S_, .f32⟩
  | 109 => ⟨S16x900x900, .f32⟩
  | 110 => ⟨S16x900x900, .f32⟩
  | 111 => ⟨S_, .f32⟩
  | 112 => ⟨S16x900, .f32⟩
  | 113 => ⟨S_, .f32⟩
  | 114 => ⟨S16x900, .f32⟩
  | 115 => ⟨S16x900, .f32⟩
  | 116 => ⟨S16x900x1, .f32⟩
  | 117 => ⟨S16x900x900, .f32⟩
  | 118 => ⟨S16x900x900, .f32⟩
  | 119 => ⟨S16x900x900, .f32⟩
  | 120 => ⟨S_, .f32⟩
  | 121 => ⟨S16x900, .f32⟩
  | 122 => ⟨S16x900x1, .f32⟩
  | 123 => ⟨S16x900x900, .f32⟩
  | 124 => ⟨S16x900x900, .f32⟩
  | 125 => ⟨S16x900x900, .i32⟩
  | 126 => ⟨S_, .f32⟩
  | 127 => ⟨S_, .i32⟩
  | _ => ⟨S4x4x1x30x30, .f32⟩

abbrev hbmTy0_1 (i : Nat) : BufTy := match i % 128 with
  | 0 => ⟨S16x900, .f32⟩
  | 1 => ⟨S16x900, .i32⟩
  | 2 => ⟨S16x900x1, .i32⟩
  | 3 => ⟨S1x1x900, .i32⟩
  | 4 => ⟨S16x900x900, .i32⟩
  | 5 => ⟨S16x900x900, .i32⟩
  | 6 => ⟨S16x900x900, .i1⟩
  | 7 => ⟨S16x900x900, .f32⟩
  | 8 => ⟨S16x900x900, .f32⟩
  | 9 => ⟨S16x900x900, .f32⟩
  | 10 => ⟨S16x900, .f32⟩
  | 11 => ⟨S16x900, .f32⟩
  | 12 => ⟨S16x900, .f32⟩
  | 13 => ⟨S16x900x1, .f32⟩
  | 14 => ⟨S16x900x1, .i1⟩
  | 15 => ⟨S16x900x1, .f32⟩
  | 16 => ⟨S16x900x1, .f32⟩
  | 17 => ⟨S16x900x1, .f32⟩
  | 18 => ⟨S_, .f32⟩
  | 19 => ⟨S16x900x1, .f32⟩
  | 20 => ⟨S16x900x1, .i1⟩
  | 21 => ⟨S16x900x1, .f32⟩
  | 22 => ⟨S16x900x1, .f32⟩
  | 23 => ⟨S16x900x1, .f32⟩
  | 24 => ⟨S16x900x1, .f32⟩
  | 25 => ⟨S16x900, .f32⟩
  | 26 => ⟨S4x4x900, .f32⟩
  | 27 => ⟨S4x900x4, .f32⟩
  | 28 => ⟨S4x1x900x4, .f32⟩
  | _ => ⟨S4x4x1x30x30, .f32⟩

abbrev hbmTy (i : Nat) : BufTy := match i / 128 with
  | 0 => hbmTy0_0 i
  | 1 => hbmTy0_1 i
  | _ => ⟨S4x4x1x30x30, .f32⟩

abbrev bufTy : (tb : Table) → Fin (tcTables nBuf tb) → BufTy
  | .hbm, ⟨i, _⟩ => hbmTy i
  | _, _ => ⟨S4x4x1x30x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_0 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_3 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_5 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_8 : Ref sig .tc := ⟨.hbm, 89, rfl⟩
abbrev main_v70 : Ref sig .tc := ⟨.hbm, 90, rfl⟩
abbrev main_v71 : Ref sig .tc := ⟨.hbm, 91, rfl⟩
abbrev main_cst_9 : Ref sig .tc := ⟨.hbm, 92, rfl⟩
abbrev main_v72 : Ref sig .tc := ⟨.hbm, 93, rfl⟩
abbrev main_cst_10 : Ref sig .tc := ⟨.hbm, 94, rfl⟩
abbrev main_v73 : Ref sig .tc := ⟨.hbm, 95, rfl⟩
abbrev main_v74 : Ref sig .tc := ⟨.hbm, 96, rfl⟩
abbrev main_cst_11 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_12 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_13 : Ref sig .tc := ⟨.hbm, 108, rfl⟩
abbrev main_v84 : Ref sig .tc := ⟨.hbm, 109, rfl⟩
abbrev main_v85 : Ref sig .tc := ⟨.hbm, 110, rfl⟩
abbrev main_cst_14 : Ref sig .tc := ⟨.hbm, 111, rfl⟩
abbrev main_v86 : Ref sig .tc := ⟨.hbm, 112, rfl⟩
abbrev main_cst_15 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_16 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_call0_v0 : Ref sig .tc := ⟨.hbm, 125, rfl⟩
abbrev main_call0_cst : Ref sig .tc := ⟨.hbm, 126, rfl⟩
abbrev main_call0_c : Ref sig .tc := ⟨.hbm, 127, rfl⟩
abbrev main_call0_v1_0 : Ref sig .tc := ⟨.hbm, 128, rfl⟩
abbrev main_v97 : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_call1_v3 : Ref sig .tc := ⟨.hbm, 133, rfl⟩
abbrev main_call1_v4 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_17 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩

abbrev nD : Nat := 1
abbrev τ : Topo := Topo.v7x

variable {F : FTy → Type} [FloatOps F]
-- ==== Proof.KerHost.lean ====
/-
  The kernel's host code before the launch: the noise, its 24 candidates per row in the order of their lanes, and the
  operands of the launch, as functions of the arguments.
-/
module

public import proofs.«01_k».proof.Defs
public import proofs.«01_k».proof.Proof.Gen.KernelIdeal.Frame
public import Idealize.ShloMosaic.Lib.Claim
public import Idealize.ShloMosaic.Lib.StableHlo.RunRead

@[expose] public section

set_option maxRecDepth 16384

noncomputable section

namespace Cert.KernelIdeal.Value

open Idealize.ShloMosaic Idealize.SL.Sem Cert.KernelIdeal Cert.KernelIdeal.Gen

/-- The noise of the uniform draws. -/
def noise (u : FVec Ideal S16x900x900 .f32) : FVec Ideal S16x900x900 .f32 :=
  Host.negf (Host.log (addf (Host.negf (Host.log (addf u
      (broadcastInDim S16x900x900 ![] bcast_S_S16x900x900 (constant S_ .f32 0x322BCC77#32)))))
    (broadcastInDim S16x900x900 ![] bcast_S_S16x900x900 (constant S_ .f32 0x322BCC77#32))))

/-- The 24 greatest entries of every row, and the lanes that hold them. -/
def top (g : FVec Ideal S16x900x900 .f32) : FVec Ideal S16x900x24 .f32 × IVec S16x900x24 32 :=
  Host.topK S16x900x24 2 (FloatOps.cmpfTotal .gt) g sliceFits_S16x900x900_S16x900x24

/-- The positions that put every row of lanes in ascending order. -/
def order (i : IVec S16x900x24 32) : IVec S16x900x24 32 :=
  (Host.sort2 S16x900x24 2 comparator_i32_i32_d2 i (iotaInDim S16x900x24 32 2)).2

/-- The positions along an axis of 24, a negative one counted from the axis' end. -/
def wrapped (i : IVec S16x900x24 32) : IVec S16x900x24x1 32 :=
  shapeCast S16x900x24x1 (select (cmpi .slt i (broadcastInDim S16x900x24 ![] bcast_S_S16x900x24 (constantI S_ 32 0#32)))
    (addi i (broadcastInDim S16x900x24 ![] bcast_S_S16x900x24 (constantI S_ 32 24#32))) i) shapeCasts_S16x900x24_S16x900x24x1

/-- Which positions lie on the axis of 24. -/
def inside (j : IVec S16x900x24x1 32) : IVec S16x900x24 1 :=
  Host.reduce IntOp.andi
    (andi (cmpi .sge j (broadcastInDim S16x900x24x1 ![] bcast_S_S16x900x24x1 (constantI S_ 32 0#32)))
      (cmpi .sle j (broadcastInDim S16x900x24x1 ![0, 1, 2, 3] bcast_S1x1x1x1_S16x900x24x1_0_1_2_3
        (broadcastInDim S1x1x1x1 ![3] bcast_S1_S1x1x1x1_3 (constantI S1 32 23#32)))))
    (constantI S_ 1 1#1) reducesTo_S16x900x24x1_S16x900x24_d3 h_S_

/-- The lanes at the given positions of their row. -/
def takeLanes (x i : IVec S16x900x24 32) : IVec S16x900x24 32 :=
  select (inside (wrapped i)) (Host.gather gather_S16x900x24_S16x900x24x1_S16x900x24_n_2_01_01_2_3_111 x (wrapped i))
    (broadcastInDim S16x900x24 ![] bcast_S_S16x900x24 (constantI S_ 32 2147483648#32))

/-- The entries at the given positions of their row. -/
def takeNoise (x : FVec Ideal S16x900x24 .f32) (i : IVec S16x900x24 32) : FVec Ideal S16x900x24 .f32 :=
  select (inside (wrapped i)) (Host.gather gather_S16x900x24_S16x900x24x1_S16x900x24_n_2_01_01_2_3_111 x (wrapped i))
    (broadcastInDim S16x900x24 ![] bcast_S_S16x900x24 (constant S_ .f32 0x7FC00000#32))

/-- The lanes along an axis of 900, a negative one counted from the axis' end. -/
def wrappedTok (i : IVec S16x21600 32) : IVec S16x21600x1 32 :=
  shapeCast S16x21600x1 (select (cmpi .slt i (broadcastInDim S16x21600 ![] bcast_S_S16x21600 (constantI S_ 32 0#32)))
    (addi i (broadcastInDim S16x21600 ![] bcast_S_S16x21600 (constantI S_ 32 900#32))) i) shapeCasts_S16x21600_S16x21600x1

/-- Which lanes lie on the axis of 900. -/
def insideTok (j : IVec S16x21600x1 32) : IVec S16x21600 1 :=
  Host.reduce IntOp.andi
    (andi (cmpi .sge j (broadcastInDim S16x21600x1 ![] bcast_S_S16x21600x1 (constantI S_ 32 0#32)))
      (cmpi .sle j (broadcastInDim S16x21600x1 ![0, 1, 2] bcast_S1x1x1_S16x21600x1_0_1_2
        (broadcastInDim S1x1x1 ![2] bcast_S1_S1x1x1_2 (constantI S1 32 899#32)))))
    (constantI S_ 1 1#1) reducesTo_S16x21600x1_S16x21600_d2 h_S_

/-- The tokens at the given lanes of their sequence. -/
def takeTok (x : FVec Ideal S16x900 .f32) (i : IVec S16x21600 32) : FVec Ideal S16x21600 .f32 :=
  select (insideTok (wrappedTok i)) (Host.gather gather_S16x900_S16x21600x1_S16x21600_n_1_0_0_1_2_11 x (wrappedTok i))
    (broadcastInDim S16x21600 ![] bcast_S_S16x21600 (constant S_ .f32 0x7FC00000#32))

/-- A `4 × 4 × 1 × 30 × 30` array of patches as 16 sequences of 900 tokens, the two outer axes exchanged. -/
def seqs (x : FVec Ideal S4x4x1x30x30 .f32) : FVec Ideal S16x900 .f32 :=
  shapeCast S16x900 (transpose S4x4x1x30x30 [1, 0, 2, 3, 4] x transposes_S4x4x1x30x30_S4x4x1x30x30_1_0_2_3_4)
    shapeCasts_S4x4x1x30x30_S16x900

/-- The candidates' lanes, ascending in every row. -/
def lanes (u : FVec Ideal S16x900x900 .f32) : IVec S16x900x24 32 := takeLanes (top (noise u)).2 (order (top (noise u)).2)

/-- The candidates' noise. -/
def candNoise (u : FVec Ideal S16x900x900 .f32) : FVec Ideal S16x900x24 .f32 := takeNoise (top (noise u)).1 (order (top (noise u)).2)

/-- The candidates' tokens. -/
def candTok (d : FVec Ideal S4x4x1x30x30 .f32) (u : FVec Ideal S16x900x900 .f32) : FVec Ideal S16x900x24 .f32 :=
  shapeCast S16x900x24 (takeTok (seqs d) (shapeCast S16x21600 (lanes u) shapeCasts_S16x900x24_S16x21600)) shapeCasts_S16x21600_S16x900x24

/-- One number as an array of one entry. -/
def one (x : FVec Ideal S_ .f32) : FVec Ideal S1 .f32 := broadcastInDim S1 ![] bcast_S_S1 x

/-- The two weights and the two biases that the kernel reads. -/
def params (w : FVec Ideal S3x1 .f32) (b : FVec Ideal S3 .f32) : FVec Ideal S4 .f32 :=
  concatenate S4 0
    [⟨S1, one (shapeCast S_ (extractStridedSlice S1x1 ![0, 0] w slices_S3x1_S1x1_0_0) shapeCasts_S1x1_S_)⟩,
     ⟨S1, one (shapeCast S_ (extractStridedSlice S1x1 ![1, 0] w slices_S3x1_S1x1_1_0) shapeCasts_S1x1_S_)⟩,
     ⟨S1, one (shapeCast S_ (extractStridedSlice S1 ![0] b slices_S3_S1_0) shapeCasts_S1_S_)⟩,
     ⟨S1, one (shapeCast S_ (extractStridedSlice S1 ![1] b slices_S3_S1_1) shapeCasts_S1_S_)⟩]
    concatenates_S1_S1_S1_S1_S4_d0

/-! ## The host code's stages -/

/-- The noise and its candidates. -/
theorem stage0 (W : Valuation τ sig (Elt Ideal)) :
    StableHlo.after hostOps0 W (Proc.devRef .tc main_values) = (top (noise (W (Proc.devRef .tc main_arg9)))).1
    ∧ StableHlo.after hostOps0 W (Proc.devRef .tc main_indices) = (top (noise (W (Proc.devRef .tc main_arg9)))).2
    ∧ StableHlo.after hostOps0 W (Proc.devRef .tc main_arg0) = W (Proc.devRef .tc main_arg0)
    ∧ StableHlo.after hostOps0 W (Proc.devRef .tc main_arg1) = W (Proc.devRef .tc main_arg1)
    ∧ StableHlo.after hostOps0 W (Proc.devRef .tc main_arg2) = W (Proc.devRef .tc main_arg2)
    ∧ StableHlo.after hostOps0 W (Proc.devRef .tc main_arg3) = W (Proc.devRef .tc main_arg3) := by
  and_intros <;> after_reads_simp <;> rfl

/-- The order of the lanes. -/
theorem stage1 (W : Valuation τ sig (Elt Ideal)) :
    StableHlo.after hostOps0_1 W (Proc.devRef .tc main_v8) = order (W (Proc.devRef .tc main_indices))
    ∧ StableHlo.after hostOps0_1 W (Proc.devRef .tc main_values) = W (Proc.devRef .tc main_values)
    ∧ StableHlo.after hostOps0_1 W (Proc.devRef .tc main_indices) = W (Proc.devRef .tc main_indices)
    ∧ StableHlo.after hostOps0_1 W (Proc.devRef .tc main_arg0) = W (Proc.devRef .tc main_arg0)
    ∧ StableHlo.after hostOps0_1 W (Proc.devRef .tc main_arg1) = W (Proc.devRef .tc main_arg1)
    ∧ StableHlo.after hostOps0_1 W (Proc.devRef .tc main_arg2) = W (Proc.devRef .tc main_arg2)
    ∧ StableHlo.after hostOps0_1 W (Proc.devRef .tc main_arg3) = W (Proc.devRef .tc main_arg3) := by
  and_intros <;> after_reads_simp <;> (try simp only [StableHlo.TRef.ofBuf_toBuf]) <;> rfl

/-- The lanes in order. -/
theorem stage2 (W : Valuation τ sig (Elt Ideal)) :
    StableHlo.after hostOps0_2 W (Proc.devRef .tc main_v9) = takeLanes (W (Proc.devRef .tc main_indices)) (W (Proc.devRef .tc main_v8))
    ∧ StableHlo.after hostOps0_2 W (Proc.devRef .tc main_v8) = W (Proc.devRef .tc main_v8)
    ∧ StableHlo.after hostOps0_2 W (Proc.devRef .tc main_values) = W (Proc.devRef .tc main_values)
    ∧ StableHlo.after hostOps0_2 W (Proc.devRef .tc main_arg0) = W (Proc.devRef .tc main_arg0)
    ∧ StableHlo.after hostOps0_2 W (Proc.devRef .tc main_arg1) = W (Proc.devRef .tc main_arg1)
    ∧ StableHlo.after hostOps0_2 W (Proc.devRef .tc main_arg2) = W (Proc.devRef .tc main_arg2)
    ∧ StableHlo.after hostOps0_2 W (Proc.devRef .tc main_arg3) = W (Proc.devRef .tc main_arg3) := by
  and_intros <;> after_reads_simp <;> (try simp only [StableHlo.TRef.ofBuf_toBuf]) <;> refine (cast_eq rfl _).trans ?_ <;> rfl

/-- The noise in order. -/
theorem stage3 (W : Valuation τ sig (Elt Ideal)) :
    StableHlo.after hostOps0_3 W (Proc.devRef .tc main_v10) = takeNoise (W (Proc.devRef .tc main_values)) (W (Proc.devRef .tc main_v8))
    ∧ StableHlo.after hostOps0_3 W (Proc.devRef .tc main_v9) = W (Proc.devRef .tc main_v9)
    ∧ StableHlo.after hostOps0_3 W (Proc.devRef .tc main_arg0) = W (Proc.devRef .tc main_arg0)
    ∧ StableHlo.after hostOps0_3 W (Proc.devRef .tc main_arg1) = W (Proc.devRef .tc main_arg1)
    ∧ StableHlo.after hostOps0_3 W (Proc.devRef .tc main_arg2) = W (Proc.devRef .tc main_arg2)
    ∧ StableHlo.after hostOps0_3 W (Proc.devRef .tc main_arg3) = W (Proc.devRef .tc main_arg3) := by
  and_intros <;> after_reads_simp <;> (try simp only [StableHlo.TRef.ofBuf_toBuf]) <;> refine (cast_eq rfl _).trans ?_ <;> rfl

/-- The sequences, the parameters and the flattened lanes. -/
theorem stage4 (W : Valuation τ sig (Elt Ideal)) :
    StableHlo.after hostOps0_4 W (Proc.devRef .tc main_v12) = seqs (W (Proc.devRef .tc main_arg0))
    ∧ StableHlo.after hostOps0_4 W (Proc.devRef .tc main_v14) = seqs (W (Proc.devRef .tc main_arg1))
    ∧ StableHlo.after hostOps0_4 W (Proc.devRef .tc main_v27) = params (W (Proc.devRef .tc main_arg2)) (W (Proc.devRef .tc main_arg3))
    ∧ StableHlo.after hostOps0_4 W (Proc.devRef .tc main_v28)
        = shapeCast S16x21600 (W (Proc.devRef .tc main_v9) : IVec S16x900x24 32) shapeCasts_S16x900x24_S16x21600
    ∧ StableHlo.after hostOps0_4 W (Proc.devRef .tc main_v9) = W (Proc.devRef .tc main_v9)
    ∧ StableHlo.after hostOps0_4 W (Proc.devRef .tc main_v10) = W (Proc.devRef .tc main_v10) := by
  and_intros <;> after_reads_simp <;> rfl

/-- The candidates' tokens, flattened. -/
theorem stage5 (W : Valuation τ sig (Elt Ideal)) :
    StableHlo.after hostOps0_5 W (Proc.devRef .tc main_v29) = takeTok (W (Proc.devRef .tc main_v14)) (W (Proc.devRef .tc main_v28))
    ∧ StableHlo.after hostOps0_5 W (Proc.devRef .tc main_v12) = W (Proc.devRef .tc main_v12)
    ∧ StableHlo.after hostOps0_5 W (Proc.devRef .tc main_v14) = W (Proc.devRef .tc main_v14)
    ∧ StableHlo.after hostOps0_5 W (Proc.devRef .tc main_v27) = W (Proc.devRef .tc main_v27)
    ∧ StableHlo.after hostOps0_5 W (Proc.devRef .tc main_v9) = W (Proc.devRef .tc main_v9)
    ∧ StableHlo.after hostOps0_5 W (Proc.devRef .tc main_v10) = W (Proc.devRef .tc main_v10) := by
  and_intros <;> after_reads_simp <;> (try simp only [StableHlo.TRef.ofBuf_toBuf]) <;> refine (cast_eq rfl _).trans ?_ <;> rfl

/-- The launch's operands. -/
theorem stage6 (W : Valuation τ sig (Elt Ideal)) :
    StableHlo.after hostOps0_6 W (Proc.devRef .tc main_v30)
        = shapeCast S16x900x24 (W (Proc.devRef .tc main_v29) : FVec Ideal S16x21600 .f32) shapeCasts_S16x21600_S16x900x24
    ∧ StableHlo.after hostOps0_6 W (Proc.devRef .tc main_v31)
        = shapeCast S16x900x1 (W (Proc.devRef .tc main_v12) : FVec Ideal S16x900 .f32) shapeCasts_S16x900_S16x900x1
    ∧ StableHlo.after hostOps0_6 W (Proc.devRef .tc main_v32)
        = shapeCast S16x1x900 (W (Proc.devRef .tc main_v14) : FVec Ideal S16x900 .f32) shapeCasts_S16x900_S16x1x900
    ∧ StableHlo.after hostOps0_6 W (Proc.devRef .tc main_v33)
        = sitofp (F := Ideal) .f32 (W (Proc.devRef .tc main_v9) : IVec S16x900x24 32)
    ∧ StableHlo.after hostOps0_6 W (Proc.devRef .tc main_v27) = W (Proc.devRef .tc main_v27)
    ∧ StableHlo.after hostOps0_6 W (Proc.devRef .tc main_v10) = W (Proc.devRef .tc main_v10) := by
  and_intros <;> after_reads_simp <;> rfl

/-- The launch's operands after the seven stretches of host code in a row. -/
theorem chain (W₀ W₁ W₂ W₃ W₄ W₅ W₆ W₇ : Valuation τ sig (Elt Ideal)) (h₁ : W₁ = StableHlo.after hostOps0 W₀)
    (h₂ : W₂ = StableHlo.after hostOps0_1 W₁) (h₃ : W₃ = StableHlo.after hostOps0_2 W₂) (h₄ : W₄ = StableHlo.after hostOps0_3 W₃)
    (h₅ : W₅ = StableHlo.after hostOps0_4 W₄) (h₆ : W₆ = StableHlo.after hostOps0_5 W₅) (h₇ : W₇ = StableHlo.after hostOps0_6 W₆) :
    W₇ (Proc.devRef .tc main_v31) = shapeCast S16x900x1 (seqs (W₀ (Proc.devRef .tc main_arg0))) shapeCasts_S16x900_S16x900x1
    ∧ W₇ (Proc.devRef .tc main_v32) = shapeCast S16x1x900 (seqs (W₀ (Proc.devRef .tc main_arg1))) shapeCasts_S16x900_S16x1x900
    ∧ W₇ (Proc.devRef .tc main_v30) = candTok (W₀ (Proc.devRef .tc main_arg1)) (W₀ (Proc.devRef .tc main_arg9))
    ∧ W₇ (Proc.devRef .tc main_v10) = candNoise (W₀ (Proc.devRef .tc main_arg9))
    ∧ W₇ (Proc.devRef .tc main_v33) = sitofp (F := Ideal) .f32 (lanes (W₀ (Proc.devRef .tc main_arg9)))
    ∧ W₇ (Proc.devRef .tc main_v27) = params (W₀ (Proc.devRef .tc main_arg2)) (W₀ (Proc.devRef .tc main_arg3)) := by
  obtain ⟨a₁, a₂, a₃, a₄, a₅, a₆⟩ := h₁ ▸ stage0 W₀
  obtain ⟨b₁, b₂, b₃, b₄, b₅, b₆, b₇⟩ := h₂ ▸ stage1 W₁
  obtain ⟨c₁, c₂, c₃, c₄, c₅, c₆, c₇⟩ := h₃ ▸ stage2 W₂
  obtain ⟨d₁, d₂, d₃, d₄, d₅, d₆⟩ := h₄ ▸ stage3 W₃
  obtain ⟨e₁, e₂, e₃, e₄, e₅, e₆⟩ := h₅ ▸ stage4 W₄
  obtain ⟨f₁, f₂, f₃, f₄, f₅, f₆⟩ := h₆ ▸ stage5 W₅
  obtain ⟨g₁, g₂, g₃, g₄, g₅, g₆⟩ := h₇ ▸ stage6 W₆
  clear h₁ h₂ h₃ h₄ h₅ h₆ h₇
  refine ⟨?_, ?_, ?_, ?_, ?_, ?_⟩
  · rw [g₂, f₂, e₁, d₃, c₄, b₄, a₃]
  · rw [g₃, f₃, e₂, d₄, c₅, b₅, a₄]
  · rw [g₁, f₁, e₂, e₄, d₄, d₂, c₅, c₁, b₅, b₁, b₃, a₂, a₄]; rfl
  · rw [g₆, f₆, e₆, d₁, c₂, c₃, b₁, b₂, a₁, a₂]; rfl
  · rw [g₄, f₅, e₅, d₂, c₁, b₁, b₃, a₂]; rfl
  · rw [g₅, f₄, e₃, d₅, d₆, c₆, c₇, b₆, b₇, a₅, a₆]

variable (m : (ℓ : Loc nD τ sig) → Buf (Elt Ideal) ℓ)

/-- What the launch finds in its six operands. -/
theorem operands (c : Dev nD) :
    V m c main_v31 = shapeCast S16x900x1 (seqs (m ((c.tc : Thread nD τ).loc main_arg0))) shapeCasts_S16x900_S16x900x1
    ∧ V m c main_v32 = shapeCast S16x1x900 (seqs (m ((c.tc : Thread nD τ).loc main_arg1))) shapeCasts_S16x900_S16x1x900
    ∧ V m c main_v30 = candTok (m ((c.tc : Thread nD τ).loc main_arg1)) (m ((c.tc : Thread nD τ).loc main_arg9))
    ∧ V m c main_v10 = candNoise (m ((c.tc : Thread nD τ).loc main_arg9))
    ∧ V m c main_v33 = sitofp (F := Ideal) .f32 (lanes (m ((c.tc : Thread nD τ).loc main_arg9)))
    ∧ V m c main_v27 = params (m ((c.tc : Thread nD τ).loc main_arg2)) (m ((c.tc : Thread nD τ).loc main_arg3)) :=
  chain (fun b => m (c, b)) _ _ _ _ _ _ (V0 m c) rfl rfl rfl rfl rfl rfl
    (by simp only [V0, List.flatten_cons, List.flatten_nil, List.append_nil, StableHlo.after_append])

end Cert.KernelIdeal.Value

end
-- ==== Proof.KerBlock.lean ====
/-
  The launch: what one block leaves, and the output array after the 16 blocks.
-/
module

public import proofs.«01_k».proof.Proof.KerHost
public import Idealize.ShloMosaic.Lib.Pipeline.ValueKit
public import Idealize.ShloMosaic.Lib.Pointwise

@[expose] public section

set_option maxRecDepth 16384

noncomputable section

namespace Cert.KernelIdeal.Value

open Idealize.ShloMosaic Idealize.SL.Sem Cert.KernelIdeal Cert.KernelIdeal.Gen

/-- Sequence `n`'s part of the tokens in a column. -/
def colOf (x : FVec Ideal S16x900x1 .f32) (n : Fin 16) : FVec Ideal S1x900x1 .f32 := fun i => x (ix3 n (i 1) (i 2))

/-- Sequence `n`'s part of the tokens in a row. -/
def rowOf (x : FVec Ideal S16x1x900 .f32) (n : Fin 16) : FVec Ideal S1x1x900 .f32 := fun i => x (ix3 n (i 1) (i 2))

/-- Sequence `n`'s part of a table of candidates. -/
def candOf (x : FVec Ideal S16x900x24 .f32) (n : Fin 16) : FVec Ideal S1x900x24 .f32 := fun i => x (ix3 n (i 1) (i 2))

/-- What one block computes from sequence `n`'s parts of the six operands. -/
def block (r : FVec Ideal S16x900x1 .f32) (d : FVec Ideal S16x1x900 .f32) (mc g l : FVec Ideal S16x900x24 .f32)
    (p : FVec Ideal S4 .f32) (n : Fin 16) : FVec Ideal S1x1x900 .f32 :=
  k0_pay1 (k0_pay2 (colOf r n)) (k0_pay3 (colOf r n) (rowOf d n) (p (ix1 0)) (p (ix1 1)) (p (ix1 2)) (p (ix1 3)) (candOf mc n))
    (candOf g n) (candOf l n)

/-- The array that the launch returns, from its operands. -/
def returned (r : FVec Ideal S16x900x1 .f32) (d : FVec Ideal S16x1x900 .f32) (mc g l : FVec Ideal S16x900x24 .f32)
    (p : FVec Ideal S4 .f32) : FVec Ideal S16x1x900 .f32 := fun j => block r d mc g l p (j 0) (ix3 0 0 (j 2))

variable (m : (ℓ : Loc nD τ sig) → Buf (Elt Ideal) ℓ)

/-- The blocks' places: block `t` of the five tiled operands and of the result is sequence `t`'s part. -/
theorem places : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![0] ∧ win0_6.index t = ![t.val, 0, 0] :=
  (by decide +kernel : ∀ t : Fin grid0.N, _)

/-- The sequence of a grid point. -/
def seqNo (t : Fin cfg0.N) : Fin 16 := ⟨t.val, t.isLt⟩

set_option maxHeartbeats 2000000 in
/-- What each point reads of the five tiled operands, and the parameters whole. -/
theorem blocks (c : Dev nD) (t : Fin cfg0.N) : iblk m c 0 t = colOf (V m c main_v31) (seqNo t)
    ∧ iblk m c 1 t = rowOf (V m c main_v32) (seqNo t) ∧ iblk m c 2 t = candOf (V m c main_v30) (seqNo t)
    ∧ iblk m c 3 t = candOf (V m c main_v10) (seqNo t) ∧ iblk m c 4 t = candOf (V m c main_v33) (seqNo t)
    ∧ iblk m c 5 t = V m c main_v27 := by
  obtain ⟨e₀, e₁, e₂, e₃, e₄, e₅, -⟩ := places t
  and_intros
  on_goal 6 =>
    funext i
    blk_simp [iblk, e₅]
    refine congrArg (V m c _) (funext fun a => Fin.ext ?_)
    match a with
    | ⟨0, _⟩ => blk_simp [e₅]
  all_goals
    funext i
    blk_simp [iblk, e₀, e₁, e₂, e₃, e₄]
    refine congrArg (V m c _) (funext fun a => Fin.ext ?_)
    match a with
    | ⟨0, _⟩ => blk_simp [e₀, e₁, e₂, e₃, e₄] <;> rfl
    | ⟨1, _⟩ => blk_simp [e₀, e₁, e₂, e₃, e₄] <;> rfl
    | ⟨2, _⟩ => blk_simp [e₀, e₁, e₂, e₃, e₄] <;> rfl

/-- Where a block's element lies in the array returned. -/
theorem emb6 (t : Fin cfg0.N) (y : S1x1x900.Idx) :
    ((View.whole main_v34).slice (win0_6.rect t)).emb y = (ix3 (seqNo t) 0 (y 2) : S16x1x900.Idx) := by
  obtain ⟨-, -, -, -, -, -, e₆⟩ := places t
  refine funext fun a => Fin.ext ?_
  match a with
  | ⟨0, _⟩ => blk_simp [e₆] <;> rfl
  | ⟨1, _⟩ => blk_simp [e₆] <;> rfl
  | ⟨2, _⟩ => blk_simp [e₆] <;> rfl

/-- An index of one block's row. -/
theorem row_idx (y : S1x1x900.Idx) : y = ix3 0 0 (y 2) := by
  obtain ⟨a, b, d, rfl⟩ : ∃ (a : Fin 1) (b : Fin 1) (d : Fin 900), y = ix3 a b d := ⟨y 0, y 1, y 2, eq_ix3 y⟩
  rw [Subsingleton.elim a 0, Subsingleton.elim b 0]
  rfl

/-- One entry of the parameters. -/
theorem ld_param (x : FVec Ideal S4 .f32) (k : Fin 4) (h) (h') :
    View.ld (Val := Elt Ideal) (e' := .f32) x (Rect.unit (s := S4) ![k.val] ![1] h) (Shape.Idx.first h') = x (ix1 k) := by
  refine congrArg x (funext fun a => Fin.ext ?_)
  match a with
  | ⟨0, _⟩ => rfl

/-- A block's result with its parameters loaded one at a time. -/
theorem loaded (x : FVec Ideal S1x900x1 .f32) (d : FVec Ideal S1x1x900 .f32) (mc g l : FVec Ideal S1x900x24 .f32)
    (p : FVec Ideal S4 .f32) (h₀ h₁ h₂ h₃ h') (y : S1x1x900.Idx) :
    k0_pay1 (k0_pay2 x) (k0_pay3 x d
        (View.ld (Val := Elt Ideal) (e' := .f32) p (Rect.unit (s := S4) ![0] ![1] h₀) (Shape.Idx.first h'))
        (View.ld (Val := Elt Ideal) (e' := .f32) p (Rect.unit (s := S4) ![1] ![1] h₁) (Shape.Idx.first h'))
        (View.ld (Val := Elt Ideal) (e' := .f32) p (Rect.unit (s := S4) ![2] ![1] h₂) (Shape.Idx.first h'))
        (View.ld (Val := Elt Ideal) (e' := .f32) p (Rect.unit (s := S4) ![3] ![1] h₃) (Shape.Idx.first h')) mc) g l y
      = k0_pay1 (k0_pay2 x) (k0_pay3 x d (p (ix1 0)) (p (ix1 1)) (p (ix1 2)) (p (ix1 3)) mc) g l (ix3 0 0 (y 2)) := by
  refine (congrArg _ (row_idx y)).trans ?_
  rw [← ld_param p 0 h₀ h', ← ld_param p 1 h₁ h', ← ld_param p 2 h₂ h', ← ld_param p 3 h₃ h']
  rfl

set_option maxHeartbeats 1000000 in
/-- The launch's array is what the blocks compute. -/
theorem final (c : Dev nD) : (dats m 0 c).arrAt 6 cfg0.N
    = returned (V m c main_v31) (V m c main_v32) (V m c main_v30) (V m c main_v10) (V m c main_v33) (V m c main_v27) := by
  refine (dats m 0 c).arrAt_eq_of_covers 6 _ (by decide +kernel) fun t hf y => ?_
  blk_simp
  rw [after0_6]
  unfold outsAt0
  frame_out
  obtain ⟨h₀, h₁, h₂, h₃, h₄, h₅⟩ := blocks m c t
  rw [h₀, h₁, h₂, h₃, h₄, h₅, emb6]
  exact loaded _ _ _ _ _ _ _ _ _ _ _ y

end Cert.KernelIdeal.Value

end
-- ==== Proof.Cand.lean ====
/-
  The candidates: in each row the kernel's host code leaves 24 distinct lanes in some order, with their noise and their
  tokens, and no other lane's noise is greater than a candidate's.
-/
module

public import proofs.«01_k».proof.Proof.KerHost
public import Idealize.ShloMosaic.Lib.SortFacts
public import Idealize.ShloMosaic.Lib.Pointwise

@[expose] public section

set_option maxRecDepth 16384

noncomputable section

namespace Cert.KernelIdeal.Value

open Idealize.ShloMosaic Idealize.SL.Sem Cert.KernelIdeal Cert.KernelIdeal.Gen

/-- A small word is the number it was made of. -/
theorem toNat_small (N p : ℕ) (hN : N ≤ 900) (hp : p < N) : min (BitVec.ofNat 32 p).toInt.toNat (N - 1) = p := by
  have : (BitVec.ofNat 32 p).toInt = (p : ℤ) := by
    simp [BitVec.toInt_ofNat', Int.bmod_def]; omega
  rw [this]
  omega

/-- A row of candidates gathered at a position that lies on the axis is the entry there. -/
theorem gather24 {α : Type} (x : S16x900x24.Idx → α) (i : IVec S16x900x24x1 32) (n : Fin 16) (t : Fin 900) (k p : Fin 24)
    (h : i (ix4 n t k 0) = BitVec.ofNat 32 p.val) :
    Host.gather gather_S16x900x24_S16x900x24x1_S16x900x24_n_2_01_01_2_3_111 x i (ix3 n t k) = x (ix3 n t p) := by
  unfold Host.gather
  refine congrArg x (funext fun a => Fin.ext ?_)
  match a with
  | ⟨0, _⟩ => show 0 + n.val + 0 = n.val; omega
  | ⟨1, _⟩ => show 0 + t.val + 0 = t.val; omega
  | ⟨2, _⟩ =>
    have e : gather_S16x900x24_S16x900x24x1_S16x900x24_n_2_01_01_2_3_111.siIdx (ix3 n t k) ⟨0, by decide⟩ = ix4 n t k 0 := by
      funext b
      match b with
      | ⟨0, _⟩ => rfl
      | ⟨1, _⟩ => rfl
      | ⟨2, _⟩ => rfl
      | ⟨3, _⟩ => rfl
    show min (i (gather_S16x900x24_S16x900x24x1_S16x900x24_n_2_01_01_2_3_111.siIdx (ix3 n t k) ⟨0, by decide⟩)).toInt.toNat 23 + 0 + 0 = p.val
    rw [e, h]
    exact toNat_small 24 p.val (by omega) p.isLt

/-- A sequence gathered at a lane on the axis is the token there. -/
theorem gather900 {α : Type} (x : S16x900.Idx → α) (i : IVec S16x21600x1 32) (n : Fin 16) (f : Fin 21600) (p : Fin 900)
    (h : i (ix3 n f 0) = BitVec.ofNat 32 p.val) :
    Host.gather gather_S16x900_S16x21600x1_S16x21600_n_1_0_0_1_2_11 x i (ix2 n f) = x (ix2 n p) := by
  unfold Host.gather
  refine congrArg x (funext fun a => Fin.ext ?_)
  match a with
  | ⟨0, _⟩ => show 0 + n.val + 0 = n.val; omega
  | ⟨1, _⟩ =>
    have e : gather_S16x900_S16x21600x1_S16x21600_n_1_0_0_1_2_11.siIdx (ix2 n f) ⟨0, by decide⟩ = ix3 n f 0 := by
      funext b
      match b with
      | ⟨0, _⟩ => rfl
      | ⟨1, _⟩ => rfl
      | ⟨2, _⟩ => rfl
    show min (i (gather_S16x900_S16x21600x1_S16x21600_n_1_0_0_1_2_11.siIdx (ix2 n f) ⟨0, by decide⟩)).toInt.toNat 899 + 0 + 0 = p.val
    rw [e, h]
    exact toNat_small 900 p.val (by omega) p.isLt

/-- The word tests and the wrap at a position on the axis. -/
theorem words24 : ∀ p : Fin 24, Scalar.select (IntOp.cmpi CmpIPredicate.slt (BitVec.ofNat 32 p.val) 0#32)
      (IntOp.addi (BitVec.ofNat 32 p.val) 24#32) (BitVec.ofNat 32 p.val) = BitVec.ofNat 32 p.val
    ∧ IntOp.andi (IntOp.cmpi CmpIPredicate.sge (BitVec.ofNat 32 p.val) 0#32) (IntOp.cmpi CmpIPredicate.sle (BitVec.ofNat 32 p.val) 23#32) = 1#1 := by
  decide +kernel

/-- A position below 900 passes the gather's tests and is unchanged by its wrap. -/
theorem words900 : ∀ p : Fin 900, Scalar.select (IntOp.cmpi CmpIPredicate.slt (BitVec.ofNat 32 p.val) 0#32)
      (IntOp.addi (BitVec.ofNat 32 p.val) 900#32) (BitVec.ofNat 32 p.val) = BitVec.ofNat 32 p.val
    ∧ IntOp.andi (IntOp.cmpi CmpIPredicate.sge (BitVec.ofNat 32 p.val) 0#32) (IntOp.cmpi CmpIPredicate.sle (BitVec.ofNat 32 p.val) 899#32) = 1#1 := by
  decide +kernel

/-- A position on the axis of 24 is unchanged by the wrap. -/
theorem wrapped_at (i : IVec S16x900x24 32) (n : Fin 16) (t : Fin 900) (k p : Fin 24) (h : i (ix3 n t k) = BitVec.ofNat 32 p.val) :
    wrapped i (ix4 n t k 0) = BitVec.ofNat 32 p.val := by
  pointwise [wrapped]
  rw [h]
  exact (words24 p).1

/-- A position on the axis of 24 passes the test. -/
theorem inside_at (j : IVec S16x900x24x1 32) (n : Fin 16) (t : Fin 900) (k p : Fin 24) (h : j (ix4 n t k 0) = BitVec.ofNat 32 p.val) :
    inside j (ix3 n t k) = 1#1 := by
  pointwise [inside]
  rw [Finset.univ_unique, Finset.fold_singleton]
  simp only [Fin.default_eq_zero, Fin.isValue, h, (words24 p).2]
  rfl

/-- A lane of the sequence is unchanged by the wrap. -/
theorem wrappedTok_at (i : IVec S16x21600 32) (n : Fin 16) (f : Fin 21600) (p : Fin 900) (h : i (ix2 n f) = BitVec.ofNat 32 p.val) :
    wrappedTok i (ix3 n f 0) = BitVec.ofNat 32 p.val := by
  pointwise [wrappedTok]
  rw [h]
  exact (words900 p).1

/-- A lane of the sequence passes the test. -/
theorem insideTok_at (j : IVec S16x21600x1 32) (n : Fin 16) (f : Fin 21600) (p : Fin 900) (h : j (ix3 n f 0) = BitVec.ofNat 32 p.val) :
    insideTok j (ix2 n f) = 1#1 := by
  pointwise [insideTok]
  rw [Finset.univ_unique, Finset.fold_singleton]
  simp only [Fin.default_eq_zero, Fin.isValue, h, (words900 p).2]
  rfl

/-- A vector selection at an index, where the mask is set. -/
theorem select_set {α : Type} {s : Shape} (c : IVec s 1) (a b : s.Idx → α) (i : s.Idx) (h : c i = 1#1) : select c a b i = a i := by
  have e : select c a b i = Scalar.select (c i) (a i) (b i) := rfl
  rw [e, h]
  rfl

/-- The lanes and the noise taken at a position on the axis are the entries there. -/
theorem takes_at (l : IVec S16x900x24 32) (g : FVec Ideal S16x900x24 .f32) (i : IVec S16x900x24 32) (n : Fin 16) (t : Fin 900)
    (k p : Fin 24) (h : i (ix3 n t k) = BitVec.ofNat 32 p.val) :
    takeLanes l i (ix3 n t k) = l (ix3 n t p) ∧ takeNoise g i (ix3 n t k) = g (ix3 n t p) := by
  have hw := wrapped_at i n t k p h
  have hi := inside_at _ n t k p hw
  exact ⟨(select_set _ _ _ _ hi).trans (gather24 l _ n t k p hw), (select_set _ _ _ _ hi).trans (gather24 g _ n t k p hw)⟩

/-- The token taken at a lane is the sequence's token there. -/
theorem takeTok_at (x : FVec Ideal S16x900 .f32) (i : IVec S16x21600 32) (n : Fin 16) (f : Fin 21600) (p : Fin 900)
    (h : i (ix2 n f) = BitVec.ofNat 32 p.val) : takeTok x i (ix2 n f) = x (ix2 n p) := by
  have hw := wrappedTok_at i n f p h
  exact (select_set _ _ _ _ (insideTok_at _ n f p hw)).trans (gather900 x _ n f p hw)

/-- The candidates' tokens, where the lane is known. -/
theorem candTok_at (d : FVec Ideal S4x4x1x30x30 .f32) (u : FVec Ideal S16x900x900 .f32) (n : Fin 16) (t : Fin 900) (k : Fin 24)
    (p : Fin 900) (h : lanes u (ix3 n t k) = BitVec.ofNat 32 p.val) : candTok d u (ix3 n t k) = seqs d (ix2 n p) := by
  unfold candTok
  generalize lanes u = l at *
  have e : ∀ {α : Type} (x : S16x21600.Idx → α) (hc), shapeCast S16x900x24 x hc (ix3 n t k) = x (ix2 n ⟨t.val * 24 + k.val, by omega⟩) := by
    intro α x hc
    pointwise
  rw [e]
  refine takeTok_at _ _ _ _ _ ?_
  rw [← h]
  pointwise

/-- The fiber of a row's last axis. -/
theorem along_at (n : Fin 16) (t : Fin 900) (k j : Fin 900) : (ix3 n t k : S16x900x900.Idx).along 2 j = ix3 n t j := by
  funext a
  match a with
  | ⟨0, _⟩ => rfl
  | ⟨1, _⟩ => rfl
  | ⟨2, _⟩ => rfl

/-- Which of two lanes of a row comes first: the one with more noise. -/
def more (g : FVec Ideal S16x900x900 .f32) (n : Fin 16) (t : Fin 900) (k k' : Fin 900) : Bool :=
  FloatOps.cmpfTotal (F := Ideal) (φ := .f32) .gt (g (ix3 n t k)) (g (ix3 n t k')) == 1#1

/-- A row's candidates are the first 24 of its lanes sorted by the noise. -/
theorem top_at (g : FVec Ideal S16x900x900 .f32) (n : Fin 16) (t : Fin 900) (k : Fin 24) :
    (top g).1 (ix3 n t k) = g (ix3 n t (sortedFrom (more g n t) (k.castLE (by omega))))
    ∧ (top g).2 (ix3 n t k) = BitVec.ofNat 32 (sortedFrom (more g n t) (k.castLE (by omega))).val := by
  have hd : 2 < S16x900x900.rank := by decide
  unfold top Host.topK Host.sort2
  simp only [dif_pos hd]
  pointwise
  simp only [along_at]
  exact ⟨rfl, rfl⟩

/-- A lane comes first exactly when it has more noise. -/
theorem more_iff (g : FVec Ideal S16x900x900 .f32) (n : Fin 16) (t : Fin 900) (k k' : Fin 900) :
    more g n t k k' = true ↔ (g (ix3 n t k') : EReal) < g (ix3 n t k) := by
  unfold more
  rw [Ideal.cmpfTotal_def]
  have e : ∀ b : Bool, BitVec.ofBool b = 1#1 ↔ b = true := by decide
  simp only [Ideal.cmp, CmpDirection.ordered, beq_iff_eq, e, decide_eq_true_iff]

/-- The order of a row's candidates puts each position somewhere, no two at one place. -/
theorem order_at (i : IVec S16x900x24 32) (n : Fin 16) (t : Fin 900) :
    ∃ σ : Fin 24 → Fin 24, Function.Injective σ ∧ ∀ k, order i (ix3 n t k) = BitVec.ofNat 32 (σ k).val := by
  refine ⟨_, sortedFrom_injective (fun k k' => comparator_i32_i32_d2 (i (ix3 n t k), BitVec.ofNat 32 k.val)
    (i (ix3 n t k'), BitVec.ofNat 32 k'.val) == 1#1), fun k => ?_⟩
  have hd : 2 < S16x900x24.rank := by decide
  unfold order Host.sort2
  simp only [dif_pos hd]
  have e : ∀ j : Fin 24, (ix3 n t k : S16x900x24.Idx).along 2 j = ix3 n t j := by
    intro j
    funext a
    match a with
    | ⟨0, _⟩ => rfl
    | ⟨1, _⟩ => rfl
    | ⟨2, _⟩ => rfl
  pointwise
  simp only [e]
  rfl

/-- A row's lanes by decreasing noise: the candidates are the first 24. -/
theorem ranking (g : FVec Ideal S16x900x900 .f32) (n : Fin 16) (t : Fin 900) :
    ∃ π : Fin 900 → Fin 900, Function.Bijective π
      ∧ (∀ i j, i < j → (g (ix3 n t (π j)) : EReal) ≤ g (ix3 n t (π i)))
      ∧ ∀ k : Fin 24, (top g).1 (ix3 n t k) = g (ix3 n t (π (k.castLE (by omega))))
        ∧ (top g).2 (ix3 n t k) = BitVec.ofNat 32 (π (k.castLE (by omega))).val := by
  refine ⟨_, ⟨sortedFrom_injective _, sortedFrom_surjective _⟩, fun i j hij => ?_, top_at g n t⟩
  have h := sortedFrom_noInversion (more g n t) (more g n t)
    (fun a b h => by
      rw [more_iff] at h
      rw [Bool.eq_false_iff, ne_eq, more_iff]
      exact not_lt_of_gt h)
    (fun _ _ h => h)
    (fun a b e h₁ h₂ => by
      rw [Bool.eq_false_iff, ne_eq, more_iff, not_lt] at h₁ h₂ ⊢
      exact h₁.trans h₂)
    i j hij
  rw [Bool.eq_false_iff, ne_eq, more_iff, not_lt] at h
  exact h

/-- In each row the candidates are 24 distinct lanes, with their words, their noise and their tokens, and no other lane
    has more noise than one of them. -/
theorem candidates (d : FVec Ideal S4x4x1x30x30 .f32) (u : FVec Ideal S16x900x900 .f32) (n : Fin 16) (t : Fin 900) :
    ∃ c : Fin 24 → Fin 900, Function.Injective c
      ∧ (∀ j, (∀ k, c k ≠ j) → ∀ k, (noise u (ix3 n t j) : EReal) ≤ noise u (ix3 n t (c k)))
      ∧ ∀ k, lanes u (ix3 n t k) = BitVec.ofNat 32 (c k).val ∧ candNoise u (ix3 n t k) = noise u (ix3 n t (c k))
        ∧ candTok d u (ix3 n t k) = seqs d (ix2 n (c k)) := by
  obtain ⟨σ, hσ, ho⟩ := order_at (top (noise u)).2 n t
  obtain ⟨π, hπ, hle, ht⟩ := ranking (noise u) n t
  have hs : Function.Bijective σ := Finite.injective_iff_bijective.mp hσ
  have hl : ∀ k, lanes u (ix3 n t k) = BitVec.ofNat 32 (π ((σ k).castLE (by omega))).val := fun k =>
    (takes_at _ (top (noise u)).1 _ n t k (σ k) (ho k)).1.trans (ht _).2
  refine ⟨fun k => π ((σ k).castLE (by omega)), ?_, ?_, fun k => ⟨hl k, ?_, candTok_at d u n t k _ (hl k)⟩⟩
  · exact hπ.1.comp ((Fin.castLE_injective _).comp hσ)
  · intro j hj k
    obtain ⟨j', rfl⟩ := hπ.2 j
    have h24 : 24 ≤ j'.val := by
      by_contra h
      obtain ⟨k', hk'⟩ := hs.2 ⟨j'.val, by omega⟩
      exact hj k' (congrArg π (Fin.ext (by simp [hk'])))
    refine hle _ _ ?_
    have := (σ k).isLt
    simp only [Fin.lt_def, Fin.val_castLE]
    omega
  · exact (takes_at (top (noise u)).2 _ _ n t k (σ k) (ho k)).2.trans (ht _).1

end Cert.KernelIdeal.Value

end
-- ==== Proof.Choice.lean ====
/-
  The mathematics of the draw: a softmax over 900 real numbers lies in (0, 1] and keeps their order, and the first greatest
  entry of weights in (0, 1] plus noise is one of 24 candidates by the noise.
-/
module

public import Mathlib.Analysis.SpecialFunctions.Log.Basic
public import Mathlib.Data.Fintype.Card

@[expose] public section

noncomputable section

namespace Cert.Draw

/-- The greatest of 900 numbers. -/
def most (x : Fin 900 → ℝ) : ℝ := Finset.univ.sup' ⟨0, Finset.mem_univ _⟩ x

/-- The softmax's denominator. -/
def total (x : Fin 900 → ℝ) : ℝ := ∑ j, Real.exp (x j - most x)

/-- The softmax of 900 numbers, the greatest one taken off first. -/
def soft (x : Fin 900 → ℝ) (j : Fin 900) : ℝ := Real.exp (x j - most x) / total x

/-- A softmax's denominator is positive. -/
theorem total_pos (x : Fin 900 → ℝ) : 0 < total x := Finset.sum_pos (fun _ _ => Real.exp_pos _) ⟨0, Finset.mem_univ _⟩

/-- A softmax's entries are positive. -/
theorem soft_pos (x : Fin 900 → ℝ) (j : Fin 900) : 0 < soft x j := div_pos (Real.exp_pos _) (total_pos x)

/-- A softmax's entries are at most one. -/
theorem soft_le_one (x : Fin 900 → ℝ) (j : Fin 900) : soft x j ≤ 1 :=
  (div_le_one (total_pos x)).mpr (Finset.single_le_sum (f := fun k => Real.exp (x k - most x)) (fun _ _ => (Real.exp_pos _).le) (Finset.mem_univ j))

/-- The softmax keeps the order. -/
theorem soft_lt_iff (x : Fin 900 → ℝ) (i j : Fin 900) : soft x i < soft x j ↔ x i < x j := by
  unfold soft
  rw [div_lt_div_iff_of_pos_right (total_pos x), Real.exp_lt_exp, sub_lt_sub_iff_right]

/-- A token's attention weights, from the tokens of both sequences and the two projections' weights and biases. -/
def weights (r d : Fin 900 → ℝ) (wq wk bq bk : ℝ) (t : Fin 900) : Fin 900 → ℝ :=
  soft fun j => (r t * wq + bq) * (d j * wk + bk)

/-- What lands at token `l` where row `t`'s sample is `J t`: the sum of the tokens whose sample is `l`. -/
def land (r : Fin 900 → ℝ) (J : Fin 900 → Fin 900) (l : Fin 900) : ℝ := ∑ t, if l = J t then r t else 0

/-- `J` is the first greatest entry. -/
def IsFirst (x : Fin 900 → ℝ) (J : Fin 900) : Prop := (∀ j, x j ≤ x J) ∧ ∀ j, j < J → x j < x J

/-- A row has one first greatest entry. -/
theorem IsFirst.unique {x : Fin 900 → ℝ} {J K : Fin 900} (h : IsFirst x J) (k : IsFirst x K) : J = K := by
  rcases lt_trichotomy J K with e | e | e
  · exact absurd (k.2 _ e) (not_lt.mpr (h.1 _))
  · exact e
  · exact absurd (h.2 _ e) (not_lt.mpr (k.1 _))

/-- Some entry is the first greatest one. -/
theorem exists_first (x : Fin 900 → ℝ) : ∃ J, IsFirst x J := by
  obtain ⟨M, -, hM⟩ := Finset.exists_max_image Finset.univ x ⟨0, Finset.mem_univ _⟩
  have hne : (Finset.univ.filter fun j => x j = x M).Nonempty := ⟨M, by simp⟩
  refine ⟨(Finset.univ.filter fun j => x j = x M).min' hne, ?_, ?_⟩
  · have := (Finset.mem_filter.mp (Finset.min'_mem _ hne)).2
    intro j
    rw [this]
    exact hM j (Finset.mem_univ _)
  · have := (Finset.mem_filter.mp (Finset.min'_mem _ hne)).2
    intro j hj
    rw [this]
    refine lt_of_le_of_ne (hM j (Finset.mem_univ _)) fun e => ?_
    exact absurd (Finset.min'_le _ j (by simp [e])) (not_le.mpr hj)

/-- The softmax has its first greatest entry where its argument has. -/
theorem isFirst_soft {x : Fin 900 → ℝ} {J : Fin 900} : IsFirst (soft x) J ↔ IsFirst x J := by
  unfold IsFirst
  simp only [soft_lt_iff, ← not_lt]

/-- With at most 24 noises above the greatest less one, the first greatest sum of a weight in (0, 1] and a noise is at one of
    24 lanes that no other lane exceeds in noise. -/
theorem first_is_candidate (a g : Fin 900 → ℝ) (ha : ∀ j, 0 < a j) (ha' : ∀ j, a j ≤ 1) (c : Fin 24 → Fin 900)
    (hc : Function.Injective c) (hg : ∀ j, (∀ k, c k ≠ j) → ∀ k, g j ≤ g (c k))
    (hn : (Finset.univ.filter fun j => most g - 1 < g j).card ≤ 24) (J : Fin 900) (hJ : IsFirst (fun j => a j + g j) J) :
    ∃ k, c k = J := by
  by_contra hno
  simp only [not_exists] at hno
  obtain ⟨M, -, hM⟩ := Finset.exists_max_image Finset.univ g ⟨0, Finset.mem_univ _⟩
  have hmost : most g = g M := le_antisymm (Finset.sup'_le _ _ fun j _ => hM j (Finset.mem_univ _))
    (Finset.le_sup' g (Finset.mem_univ M))
  -- some candidate attains the greatest noise
  have hk : ∃ k, g (c k) = g M := by
    by_cases h : ∃ k, c k = M
    · obtain ⟨k, rfl⟩ := h
      exact ⟨k, rfl⟩
    · exact ⟨0, le_antisymm (hM _ (Finset.mem_univ _)) (hg M (fun k e => h ⟨k, e⟩) 0)⟩
  obtain ⟨k, hk⟩ := hk
  -- the lane's noise is at most the greatest less one
  have hle : g J ≤ most g - 1 := by
    by_contra hlt
    rw [not_le] at hlt
    have hsub : insert J (Finset.univ.image c) ⊆ Finset.univ.filter fun j => most g - 1 < g j := by
      intro j hj
      rw [Finset.mem_insert, Finset.mem_image] at hj
      rw [Finset.mem_filter]
      refine ⟨Finset.mem_univ _, ?_⟩
      rcases hj with rfl | ⟨k', -, rfl⟩
      · exact hlt
      · exact lt_of_lt_of_le hlt (hg J hno k')
    have hcard := Finset.card_le_card hsub
    rw [Finset.card_insert_of_notMem (by simpa using hno), Finset.card_image_of_injective _ hc, Finset.card_univ, Fintype.card_fin] at hcard
    omega
  have h := hJ.1 (c k)
  have h₁ := ha (c k)
  have h₂ := ha' J
  simp only at h
  rw [hk] at h
  rw [hmost] at hle
  linarith

/-- Among the candidates the greatest sum is the first greatest entry's, and the lanes that attain it start with that entry. -/
theorem candidate_max (y : Fin 900 → ℝ) (c : Fin 24 → Fin 900) (J : Fin 900) (hJ : IsFirst y J) (k₀ : Fin 24) (hk : c k₀ = J) :
    (∀ k, y (c k) ≤ y J) ∧ y (c k₀) = y J ∧ ∀ k, y (c k) = y J → J ≤ c k :=
  ⟨fun k => hJ.1 _, by rw [hk], fun k e => not_lt.mp fun h => absurd (hJ.2 _ h) (by rw [e]; exact lt_irrefl _)⟩

/-- The noise of a draw, from the small number added under each logarithm. -/
def gumbel (ε u : ℝ) : ℝ := -Real.log (-Real.log (u + ε) + ε)

/-- The two logarithms of the noise are of positive numbers. -/
theorem gumbel_args {ε u : ℝ} (hε : 0 < ε) (h₀ : 0 ≤ u) (h₁ : u < 1) : 0 < u + ε ∧ 0 < -Real.log (u + ε) + ε := by
  have h : 0 < u + ε := by linarith
  refine ⟨h, ?_⟩
  have := Real.log_le_sub_one_of_pos h
  linarith

end Cert.Draw

end
-- ==== Proof.Reading.lean ====
/-
  The extended reals' operations at real numbers: what a maximum, a sum, a quotient, a softmax or the noise of real entries is.
-/
module

public import proofs.«01_k».proof.Defs
public import proofs.«01_k».proof.Proof.Choice
public import Idealize.ShloMosaic.Lib.Pointwise
public import Idealize.ShloMosaic.PureOps.Reduce
public import Idealize.ShloMosaic.PureOps.Ideal.Laws

@[expose] public section

set_option maxRecDepth 16384

noncomputable section

open Idealize.ShloMosaic

namespace Cert.Draw

/-- The bits of minus infinity. -/
theorem ofBits_bot : Ideal.ofBits .f32 0xFF800000#32 = ⊥ := by simp [Ideal.ofBits, Ideal.ieee]

/-- The bits of plus infinity. -/
theorem ofBits_top : Ideal.ofBits .f32 0x7F800000#32 = ⊤ := by simp [Ideal.ofBits, Ideal.ieee]

/-- The number under each of the noise's logarithms. -/
def eps : ℝ := 11258999 * 2 ^ (-50 : ℤ)

/-- The noise's small constant is positive. -/
theorem eps_pos : 0 < eps := by unfold eps; positivity

/-- The noise's small constant, from its float word. -/
theorem ofBits_eps : Ideal.ofBits .f32 0x322BCC77#32 = (eps : EReal) := by
  simp [Ideal.ofBits, Ideal.ieee, eps, -EReal.coe_mul]
  try norm_num

/-- The number added to a layer norm's variance is a positive real. -/
theorem ofBits_var : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]
  try norm_num

/-- The bits of 1800. -/
theorem ofBits_1800 : Ideal.ofBits .f32 0x44E10000#32 = ((1800 : ℝ) : EReal) := by
  simp [Ideal.ofBits, Ideal.ieee, -EReal.coe_mul]
  try norm_num

/-- A reduction by the maximum from minus infinity is the bound on its row that some entry of the row attains. -/
theorem reduce_max_eq {s t u : Shape} {axes : List (Fin s.rank)} (x : FVec Ideal s .f32) (init : FVec Ideal u .f32)
    (h : s.ReducesTo axes t) (hu : 0 < u.numel) (j : t.Idx) (M : EReal) (hi : ∀ i, init i = (⊥ : EReal))
    (hle : ∀ i, h.drop i = j → (x i : EReal) ≤ M) (hM : ∃ i, h.drop i = j ∧ x i = M) :
    Host.reduce FloatOps.maximumf x init h hu j = M := by
  rw [Host.reduce_eq_fold, hi]
  obtain ⟨i, hj, e⟩ := hM
  refine le_antisymm (Finset.sup_le (f := x) fun i hi => hle i (by simpa using hi)) ?_
  rw [← e]
  exact Finset.le_sup (f := x) (by simpa using hj)

/-- A kernel's reduction by the maximum, the same. -/
theorem multi_max_eq {s t : Shape} {axes : List (Fin s.rank)} (x : FVec Ideal s .f32) (acc : BitVec 32) (h : s.Reduces axes t)
    (hφ : FKind.Formats .f32) (hacc : acc = FKind.maximumf.neutral .f32 hφ) (j : t.Idx) (M : EReal)
    (hi : Ideal.ofBits .f32 acc = (⊥ : EReal)) (hle : ∀ i, h.drop i = j → (x i : EReal) ≤ M) (hM : ∃ i, h.drop i = j ∧ x i = M) :
    multiReduction .maximumf axes t x acc h hφ hacc j = M := by
  rw [multiReduction_maximumf_eq_fold]
  obtain ⟨i, hj, e⟩ := hM
  have hi' : (FloatOps.ofBits .f32 acc : Ideal .f32) = (⊥ : EReal) := hi
  rw [hi']
  refine le_antisymm (Finset.sup_le (f := x) fun i hi => hle i (by simpa using hi)) ?_
  rw [← e]
  exact Finset.le_sup (f := x) (by simpa using hj)

/-- A kernel's reduction by the minimum from plus infinity is the bound on its row that some entry of the row attains. -/
theorem multi_min_eq {s t : Shape} {axes : List (Fin s.rank)} (x : FVec Ideal s .f32) (acc : BitVec 32) (h : s.Reduces axes t)
    (hφ : FKind.Formats .f32) (hacc : acc = FKind.minimumf.neutral .f32 hφ) (j : t.Idx) (M : EReal)
    (hi : Ideal.ofBits .f32 acc = (⊤ : EReal)) (hle : ∀ i, h.drop i = j → M ≤ (x i : EReal)) (hM : ∃ i, h.drop i = j ∧ x i = M) :
    multiReduction .minimumf axes t x acc h hφ hacc j = M := by
  rw [multiReduction_minimumf_eq_fold]
  obtain ⟨i, hj, e⟩ := hM
  have hi' : (FloatOps.ofBits .f32 acc : Ideal .f32) = (⊤ : EReal) := hi
  rw [hi']
  refine le_antisymm ?_ (Finset.le_inf (f := x) fun i hi => hle i (by simpa using hi))
  rw [← e]
  exact Finset.inf_le (f := x) (by simpa using hj)

/-- A sum of real entries. -/
theorem sum_coe {ι : Type} [Fintype ι] (x : ι → ℝ) : ∑ j, (x j : EReal) = ((∑ j, x j : ℝ) : EReal) := by
  classical
  induction (Finset.univ : Finset ι) using Finset.induction with
  | empty => simp
  | insert a s ha ih => rw [Finset.sum_insert ha, Finset.sum_insert ha, ih, EReal.coe_add]

/-- A quotient by a real that is not zero. -/
theorem div_coe (a b : ℝ) (h : b ≠ 0) : Ideal.div (a : EReal) (b : EReal) = ((a / b : ℝ) : EReal) := by
  unfold Ideal.div
  rw [if_neg (by simpa using h), div_eq_mul_inv, EReal.coe_mul, EReal.coe_inv]

/-- A quotient by one. -/
theorem div_one' (a : EReal) : Ideal.div a 1 = a := by
  unfold Ideal.div
  rw [if_neg one_ne_zero, inv_one, mul_one]

/-- The square root of a real that is not negative. -/
theorem sqrt_coe (r : ℝ) (h : 0 ≤ r) : Ideal.sqrt (r : EReal) = ((√r : ℝ) : EReal) :=
  if_neg (not_lt.mpr h)

/-- The square root of one. -/
theorem sqrt_one' : Ideal.sqrt 1 = 1 := by
  rw [← EReal.coe_one, sqrt_coe 1 zero_le_one, Real.sqrt_one]

/-- A softmax of real entries. -/
theorem soft_read (x : Fin 900 → ℝ) (l : Fin 900) :
    Ideal.div (Ideal.exp ((x l : EReal) - (most x : EReal))) (∑ k, Ideal.exp ((x k : EReal) - (most x : EReal))) = (soft x l : EReal) := by
  have e : ∀ k, Ideal.exp ((x k : EReal) - (most x : EReal)) = ((Real.exp (x k - most x) : ℝ) : EReal) := fun k => by
    rw [← EReal.coe_sub]; rfl
  rw [e, Finset.sum_congr rfl (fun k _ => e k), sum_coe]
  exact div_coe _ _ (total_pos x).ne'

/-- The noise of a real draw in [0, 1). -/
theorem gumbel_read (u : ℝ) (h₀ : 0 ≤ u) (h₁ : u < 1) :
    -Ideal.log (-Ideal.log ((u : EReal) + (eps : EReal)) + (eps : EReal)) = (gumbel eps u : EReal) := by
  have hlog : ∀ x : ℝ, 0 < x → Ideal.log (x : EReal) = ((Real.log x : ℝ) : EReal) := fun x hx => by
    unfold Ideal.log
    exact if_neg (not_le.mpr hx)
  obtain ⟨a, b⟩ := gumbel_args eps_pos h₀ h₁
  rw [← EReal.coe_add, hlog _ a, ← EReal.coe_neg, ← EReal.coe_add, hlog _ b, ← EReal.coe_neg]
  rfl

end Cert.Draw

end
-- ==== Proof.KerValue.lean ====
/-
  One block of the kernel at an index, at real entries: the sampled tokens summed where they land.
-/
module

public import proofs.«01_k».proof.Proof.KerBlock
public import proofs.«01_k».proof.Proof.Cand
public import proofs.«01_k».proof.Proof.Reading
public import Idealize.ShloMosaic.Lib.Pointwise

@[expose] public section

set_option maxRecDepth 16384

noncomputable section

namespace Cert.KernelIdeal.Value

open Idealize.ShloMosaic Idealize.SL.Sem Cert.KernelIdeal Cert.KernelIdeal.Gen Cert.Draw

/-! ## The stages of a block -/

/-- The queries. -/
def queries (r : FVec Ideal S1x900x1 .f32) (w b : EReal) : FVec Ideal S900x1 .f32 :=
  addf (mulf (k0_pay2 r) (broadcast S900x1 (w : Ideal .f32))) (broadcast S900x1 (b : Ideal .f32))

/-- The keys. -/
def keys (d : FVec Ideal S1x1x900 .f32) (w b : EReal) : FVec Ideal S900 .f32 :=
  addf (mulf (shapeCast S900 d shapeCasts_S1x1x900_S900) (broadcast S900 (w : Ideal .f32))) (broadcast S900 (b : Ideal .f32))

/-- The candidates' keys. -/
def candKeys (c : FVec Ideal S1x900x24 .f32) (w b : EReal) : FVec Ideal S900x24 .f32 :=
  addf (mulf (shapeCast S900x24 c shapeCasts_S1x900x24_S900x24) (broadcast S900x24 (w : Ideal .f32))) (broadcast S900x24 (b : Ideal .f32))

/-- Every query times every key. -/
def scores (q : FVec Ideal S900x1 .f32) (k : FVec Ideal S900 .f32) : FVec Ideal S900x900 .f32 :=
  mulf (broadcastTo S900x900 q broadcasts_S900x1_S900x900)
    (broadcastTo S900x900 (shapeCast S1x900 k shapeCasts_S900_S1x900) broadcasts_S1x900_S900x900)

/-- Every row's greatest entry. -/
def rowMax (x : FVec Ideal S900x900 .f32) : FVec Ideal S900x1 .f32 :=
  shapeCast S900x1 (multiReduction .maximumf [1] S900 x 0xFF800000#32 reduces_S900x900_S900 (.inl rfl) rfl) shapeCasts_S900_S900x1

/-- The exponentials of every row less a number of the row's. -/
def expRow (x : FVec Ideal S900x900 .f32) (m : FVec Ideal S900x1 .f32) : FVec Ideal S900x900 .f32 :=
  exp (subf x (broadcastTo S900x900 m broadcasts_S900x1_S900x900))

/-- Every row's sum. -/
def rowSum (x : FVec Ideal S900x900 .f32) : FVec Ideal S900x1 .f32 :=
  shapeCast S900x1 (multiReduction .add [1] S900 x 0x00000000#32 reduces_S900x900_S900 (.inl rfl) rfl) shapeCasts_S900_S900x1

/-- The candidates' attention weights, from the queries, the candidates' keys and the rows' maxima and sums. -/
def candWeights (q : FVec Ideal S900x1 .f32) (k : FVec Ideal S900x24 .f32) (m z : FVec Ideal S900x1 .f32) : FVec Ideal S900x24 .f32 :=
  divf (exp (subf (mulf (broadcastTo S900x24 q broadcasts_S900x1_S900x24) k) (broadcastTo S900x24 m broadcasts_S900x1_S900x24)))
    (broadcastTo S900x24 z broadcasts_S900x1_S900x24)

/-- The candidates' weights with their noise. -/
def perturbed (a : FVec Ideal S900x24 .f32) (g : FVec Ideal S1x900x24 .f32) : FVec Ideal S900x24 .f32 :=
  addf a (shapeCast S900x24 g shapeCasts_S1x900x24_S900x24)

/-- Every row's greatest candidate. -/
def candMax (y : FVec Ideal S900x24 .f32) : FVec Ideal S900 .f32 :=
  multiReduction .maximumf [1] S900 y 0xFF800000#32 reduces_S900x24_S900 (.inl rfl) rfl

/-- The lanes of the candidates that attain a row's number, 1800 for the others. -/
def attaining (y : FVec Ideal S900x24 .f32) (m : FVec Ideal S900 .f32) (l : FVec Ideal S1x900x24 .f32) : FVec Ideal S900x24 .f32 :=
  select (cmpf .oeq y (broadcastTo S900x24 (shapeCast S900x1 m shapeCasts_S900_S900x1) broadcasts_S900x1_S900x24))
    (shapeCast S900x24 l shapeCasts_S1x900x24_S900x24) (broadcast S900x24 (Scalar.ofBits (F := Ideal) .f32 0x44E10000#32))

/-- Every row's least lane. -/
def leastLane (l : FVec Ideal S900x24 .f32) : FVec Ideal S900 .f32 :=
  multiReduction .minimumf [1] S900 l 0x7F800000#32 reduces_S900x24_S900 (.inl rfl) rfl

/-- The tokens, each at its row's lane, zero at the other lanes. -/
def spread (r : FVec Ideal S900x1 .f32) (l : FVec Ideal S900 .f32) : FVec Ideal S900x900 .f32 :=
  select (cmpi .eq (iota .tc S900x900 32 [1] iota_S900x900_d1_w32)
      (broadcastTo S900x900 (fptosi 32 (shapeCast S900x1 l shapeCasts_S900_S900x1)) broadcasts_S900x1_S900x900))
    (broadcastTo S900x900 (shapeCast S900x1 r shapeCasts_S900x1_S900x1) broadcasts_S900x1_S900x900)
    (broadcast S900x900 (Scalar.ofBits (F := Ideal) .f32 0x00000000#32))

/-- The sums down the lanes, as a block. -/
def summed (x : FVec Ideal S900x900 .f32) : FVec Ideal S1x1x900 .f32 :=
  shapeCast S1x1x900 (multiReduction .add [0] S900 x 0x00000000#32 reduces_S900x900_S900_2 (.inl rfl) rfl) shapeCasts_S900_S1x1x900

/-- The attention's part of a block is these stages. -/
theorem pay3_eq (r : FVec Ideal S1x900x1 .f32) (d : FVec Ideal S1x1x900 .f32) (wq wk bq bk : EReal) (c : FVec Ideal S1x900x24 .f32) :
    k0_pay3 (F := Ideal) r d wq wk bq bk c = candWeights (queries r wq bq) (candKeys c wk bk) (rowMax (scores (queries r wq bq) (keys d wk bk)))
      (rowSum (expRow (scores (queries r wq bq) (keys d wk bk)) (rowMax (scores (queries r wq bq) (keys d wk bk))))) := rfl

/-- The rest of a block is these stages. -/
theorem pay1_eq (r : FVec Ideal S900x1 .f32) (a : FVec Ideal S900x24 .f32) (g l : FVec Ideal S1x900x24 .f32) :
    k0_pay1 (F := Ideal) r a g l
      = summed (spread r (leastLane (attaining (perturbed a g) (candMax (perturbed a g)) l))) := rfl

/-! ## The stages at an index -/

/-- The block's column of tokens, read at a token. -/
theorem pay2_at (r : FVec Ideal S1x900x1 .f32) (t : Fin 900) : k0_pay2 (F := Ideal) r (ix2 t 0) = r (ix3 0 t 0) := by
  pointwise [k0_pay2]

/-- A query is the token times the weight, plus the bias. -/
theorem queries_at (r : FVec Ideal S1x900x1 .f32) (w b : ℝ) (t : Fin 900) (r' : ℝ) (hr : r (ix3 0 t 0) = (r' : EReal)) :
    queries r w b (ix2 t 0) = ((r' * w + b : ℝ) : EReal) := by
  have e := pay2_at r t
  unfold queries
  generalize k0_pay2 (F := Ideal) r = x at e ⊢
  pointwise
  rw [e, hr, EReal.coe_add, EReal.coe_mul]

/-- A key is the token times the weight, plus the bias. -/
theorem keys_at (d : FVec Ideal S1x1x900 .f32) (w b : ℝ) (j : Fin 900) (d' : ℝ) (hd : d (ix3 0 0 j) = (d' : EReal)) :
    keys d w b (ix1 j) = ((d' * w + b : ℝ) : EReal) := by
  pointwise [keys]
  rw [hd, EReal.coe_add, EReal.coe_mul]

/-- A candidate's key is its token times the weight, plus the bias. -/
theorem candKeys_at (c : FVec Ideal S1x900x24 .f32) (w b : ℝ) (t : Fin 900) (k : Fin 24) (d' : ℝ) (hd : c (ix3 0 t k) = (d' : EReal)) :
    candKeys c w b (ix2 t k) = ((d' * w + b : ℝ) : EReal) := by
  pointwise [candKeys]
  rw [hd, EReal.coe_add, EReal.coe_mul]

/-- A score is the query times the key. -/
theorem scores_at (q : FVec Ideal S900x1 .f32) (k : FVec Ideal S900 .f32) (t j : Fin 900) (q' k' : ℝ)
    (hq : q (ix2 t 0) = (q' : EReal)) (hk : k (ix1 j) = (k' : EReal)) : scores q k (ix2 t j) = ((q' * k' : ℝ) : EReal) := by
  pointwise [scores]
  rw [hq, hk, EReal.coe_mul]

/-- A number per row as a column. -/
theorem column_at {α : Type} (x : S900.Idx → α) (t : Fin 900) : shapeCast S900x1 x shapeCasts_S900_S900x1 (ix2 t 0) = x (ix1 t) := by
  pointwise

/-- The indices of a row of scores. -/
theorem drop_score (i : S900x900.Idx) (t : Fin 900) :
    reduces_S900x900_S900.drop i = ix1 t ↔ ∃ l : Fin 900, i = ix2 t l := by
  have h₀ : ((reduces_S900x900_S900.drop i 0 : Fin _) : ℕ) = i 0 := Shape.Reduces.drop_apply_val_of_eq _ i 0 0
  constructor
  · intro e
    rw [e] at h₀
    refine ⟨i 1, ?_⟩
    rw [eq_ix2 i]
    exact congrArg (fun a => ix2 a (i 1)) (Fin.ext h₀.symm)
  · rintro ⟨l, rfl⟩
    rw [eq_ix1 (reduces_S900x900_S900.drop (ix2 t l))]
    exact congrArg ix1 (Fin.ext h₀)

/-- The indices of a row of candidates. -/
theorem drop_cand (i : S900x24.Idx) (t : Fin 900) :
    reduces_S900x24_S900.drop i = ix1 t ↔ ∃ k : Fin 24, i = ix2 t k := by
  have h₀ : ((reduces_S900x24_S900.drop i 0 : Fin _) : ℕ) = i 0 := Shape.Reduces.drop_apply_val_of_eq _ i 0 0
  constructor
  · intro e
    rw [e] at h₀
    refine ⟨i 1, ?_⟩
    rw [eq_ix2 i]
    exact congrArg (fun a => ix2 a (i 1)) (Fin.ext h₀.symm)
  · rintro ⟨l, rfl⟩
    rw [eq_ix1 (reduces_S900x24_S900.drop (ix2 t l))]
    exact congrArg ix1 (Fin.ext h₀)

/-- The row maximum of real entries is the greatest of them. -/
theorem rowMax_at (x : FVec Ideal S900x900 .f32) (t : Fin 900) (f : Fin 900 → ℝ) (hx : ∀ l, x (ix2 t l) = (f l : EReal)) :
    rowMax x (ix2 t 0) = (most f : EReal) := by
  refine (column_at _ t).trans (multi_max_eq x _ _ _ _ _ _ ofBits_bot (fun i hi => ?_) ?_)
  · obtain ⟨l, rfl⟩ := (drop_score i t).mp hi
    rw [hx]
    exact EReal.coe_le_coe_iff.mpr (Finset.le_sup' f (Finset.mem_univ l))
  · obtain ⟨M, -, hM⟩ := Finset.exists_mem_eq_sup' ⟨0, Finset.mem_univ _⟩ f
    exact ⟨ix2 t M, (drop_score _ t).mpr ⟨M, rfl⟩, by rw [hx, most, hM]⟩

/-- Every score is exponentiated after the row's maximum is taken off. -/
theorem expRow_at (x : FVec Ideal S900x900 .f32) (m : FVec Ideal S900x1 .f32) (t l : Fin 900) :
    expRow x m (ix2 t l) = Ideal.exp ((x (ix2 t l) : EReal) - m (ix2 t 0)) := by
  pointwise [expRow]

/-- The row sum, as a sum over the lanes. -/
theorem rowSum_at (x : FVec Ideal S900x900 .f32) (t : Fin 900) : rowSum x (ix2 t 0) = ∑ l, (x (ix2 t l) : EReal) := by
  pointwise [rowSum]

/-- A candidate's weight is its exponential over the row's sum. -/
theorem candWeights_at (q : FVec Ideal S900x1 .f32) (k : FVec Ideal S900x24 .f32) (m z : FVec Ideal S900x1 .f32) (t : Fin 900)
    (i : Fin 24) : candWeights q k m z (ix2 t i)
      = Ideal.div (Ideal.exp ((q (ix2 t 0) : EReal) * k (ix2 t i) - m (ix2 t 0))) (z (ix2 t 0)) := by
  pointwise [candWeights]

/-- The candidates' attention weights at real entries are the weights at the candidates' lanes. -/
theorem pay3_at (r : FVec Ideal S1x900x1 .f32) (d : FVec Ideal S1x1x900 .f32) (wq wk bq bk : ℝ) (c : FVec Ideal S1x900x24 .f32)
    (r' d' : Fin 900 → ℝ) (hr : ∀ t, r (ix3 0 t 0) = (r' t : EReal)) (hd : ∀ j, d (ix3 0 0 j) = (d' j : EReal)) (t : Fin 900) (k : Fin 24)
    (j : Fin 900) (hc : c (ix3 0 t k) = (d' j : EReal)) :
    k0_pay3 (F := Ideal) r d (wq : EReal) (wk : EReal) (bq : EReal) (bk : EReal) c (ix2 t k) = (weights r' d' wq wk bq bk t j : EReal) := by
  rw [pay3_eq]
  have hq := queries_at r wq bq t (r' t) (hr t)
  have hs := fun j => scores_at _ _ t j _ _ hq (keys_at d wk bk j (d' j) (hd j))
  have hm := rowMax_at _ t _ hs
  have hk := candKeys_at c wk bk t k (d' j) hc
  generalize scores (queries r wq bq) (keys d wk bk) = x at hs hm ⊢
  generalize rowMax x = m at hm ⊢
  have he := fun j => expRow_at x m t j
  have hz := rowSum_at (expRow x m) t
  generalize expRow x m = y at he hz ⊢
  rw [candWeights_at, hq, hk, hm, hz, ← EReal.coe_mul]
  simp only [he, hs, hm]
  exact soft_read _ j

/-- A candidate's weight plus its noise. -/
theorem perturbed_at (a : FVec Ideal S900x24 .f32) (g : FVec Ideal S1x900x24 .f32) (t : Fin 900) (k : Fin 24) :
    perturbed a g (ix2 t k) = (a (ix2 t k) + g (ix3 0 t k) : EReal) := by
  pointwise [perturbed]

/-- The greatest of a row's candidates, where one of them attains a bound of them all. -/
theorem candMax_at (y : FVec Ideal S900x24 .f32) (t : Fin 900) (M : EReal) (h : ∀ k, (y (ix2 t k) : EReal) ≤ M) (k₀ : Fin 24)
    (e : y (ix2 t k₀) = M) : candMax y (ix1 t) = M := by
  refine multi_max_eq y _ _ _ _ _ _ ofBits_bot (fun i hi => ?_) ⟨ix2 t k₀, (drop_cand _ t).mpr ⟨k₀, rfl⟩, e⟩
  obtain ⟨k, rfl⟩ := (drop_cand i t).mp hi
  exact h k

/-- The least lane of a row's candidates, where one of them attains a bound of them all. -/
theorem leastLane_at (y : FVec Ideal S900x24 .f32) (t : Fin 900) (M : EReal) (h : ∀ k, M ≤ (y (ix2 t k) : EReal)) (k₀ : Fin 24)
    (e : y (ix2 t k₀) = M) : leastLane y (ix1 t) = M := by
  refine multi_min_eq y _ _ _ _ _ _ ofBits_top (fun i hi => ?_) ⟨ix2 t k₀, (drop_cand _ t).mpr ⟨k₀, rfl⟩, e⟩
  obtain ⟨k, rfl⟩ := (drop_cand i t).mp hi
  exact h k

/-- A selection by an equation. -/
theorem select_eq (a b x y : EReal) : Scalar.select (BitVec.ofBool (decide (a = b))) x y = if a = b then x else y := by
  by_cases h : a = b <;> simp [Scalar.select, h]

/-- A candidate's lane where it attains the row's greatest value, else 1800. -/
theorem attaining_at (y : FVec Ideal S900x24 .f32) (m : FVec Ideal S900 .f32) (l : FVec Ideal S1x900x24 .f32) (t : Fin 900) (k : Fin 24) :
    attaining y m l (ix2 t k) = if (y (ix2 t k) : EReal) = m (ix1 t) then (l (ix3 0 t k) : EReal) else ((1800 : ℝ) : EReal) := by
  pointwise [attaining]
  rw [← ofBits_1800]

/-- A lane's number as a word. -/
theorem word_of_lane (J : Fin 900) : FloatOps.fptosi (F := Ideal) (φ := .f32) 32 (((J.val : ℝ) : EReal) : Ideal .f32) = BitVec.ofNat 32 J.val := by
  have h := J.isLt
  have e : Ideal.toIntClamped (-(2 ^ 31)) (2 ^ 31 - 1) ((J.val : ℝ) : EReal) = (J.val : ℤ) := by
    have f : ⌊(J.val : ℝ)⌋ = (J.val : ℤ) := Int.floor_natCast _
    show max (-(2 ^ 31) : ℤ) (min (2 ^ 31 - 1) (if 0 ≤ (J.val : ℝ) then ⌊(J.val : ℝ)⌋ else ⌈(J.val : ℝ)⌉)) = _
    rw [if_pos (Nat.cast_nonneg _), f]
    omega
  show BitVec.ofInt 32 (Ideal.toIntClamped (-(2 ^ 31)) (2 ^ 31 - 1) ((J.val : ℝ) : EReal)) = _
  rw [e]
  rfl

/-- Row `t` holds its token at lane `J` and zero elsewhere. -/
theorem spread_at (r : FVec Ideal S900x1 .f32) (l : FVec Ideal S900 .f32) (t j J : Fin 900) (r' : ℝ) (hr : r (ix2 t 0) = (r' : EReal))
    (hl : l (ix1 t) = ((J.val : ℝ) : EReal)) : spread r l (ix2 t j) = ((if j = J then r' else 0 : ℝ) : EReal) := by
  pointwise [spread]
  rw [hl, hr, word_of_lane]
  by_cases h : j = J
  · subst h
    simp [Scalar.select, IntOp.cmpi]
  · have : ¬ BitVec.ofNat 32 j.val = BitVec.ofNat 32 J.val := fun e => h (by
      have := congrArg BitVec.toNat e
      rw [BitVec.toNat_ofNat, BitVec.toNat_ofNat, Nat.mod_eq_of_lt (by omega), Nat.mod_eq_of_lt (by omega)] at this
      exact Fin.ext this)
    simp [Scalar.select, IntOp.cmpi, h, beq_eq_false_iff_ne.mpr this]

/-- A lane of the block is the sum of that lane over the rows. -/
theorem summed_at (x : FVec Ideal S900x900 .f32) (j : Fin 900) : summed x (ix3 0 0 j) = ∑ t, (x (ix2 t j) : EReal) := by
  pointwise [summed]

/-- A block at real entries: where row `t`'s candidates are the lanes `c t`, one of them the first greatest sum `J t` of the
    row's weights and noise, the block holds the tokens summed where `J` sends them. -/
theorem block_at (r : FVec Ideal S16x900x1 .f32) (d : FVec Ideal S16x1x900 .f32) (mc g l : FVec Ideal S16x900x24 .f32)
    (p : FVec Ideal S4 .f32) (n : Fin 16) (j : Fin 900) (r' d' : Fin 900 → ℝ) (wq wk bq bk : ℝ) (g' : Fin 900 → Fin 900 → ℝ)
    (c : Fin 900 → Fin 24 → Fin 900) (J : Fin 900 → Fin 900)
    (hr : ∀ t, r (ix3 n t 0) = (r' t : EReal)) (hd : ∀ j, d (ix3 n 0 j) = (d' j : EReal))
    (h₀ : p (ix1 0) = (wq : EReal)) (h₁ : p (ix1 1) = (wk : EReal)) (h₂ : p (ix1 2) = (bq : EReal)) (h₃ : p (ix1 3) = (bk : EReal))
    (hc : ∀ t k, mc (ix3 n t k) = (d' (c t k) : EReal)) (hg : ∀ t k, g (ix3 n t k) = (g' t (c t k) : EReal))
    (hl : ∀ t k, l (ix3 n t k) = (((c t k).val : ℝ) : EReal))
    (hJ : ∀ t, IsFirst (fun j => weights r' d' wq wk bq bk t j + g' t j) (J t)) (hk : ∀ t, ∃ k, c t k = J t) :
    block r d mc g l p n (ix3 0 0 j) = (land r' J j : EReal) := by
  unfold block
  rw [h₀, h₁, h₂, h₃, pay1_eq, summed_at]
  unfold land
  rw [← sum_coe]
  refine Finset.sum_congr rfl fun t _ => ?_
  obtain ⟨k₀, hk₀⟩ := hk t
  obtain ⟨m₁, m₂, m₃⟩ := candidate_max _ (c t) (J t) (hJ t) k₀ hk₀
  have hy : ∀ k, perturbed (k0_pay3 (colOf r n) (rowOf d n) (wq : EReal) (wk : EReal) (bq : EReal) (bk : EReal) (candOf mc n)) (candOf g n) (ix2 t k)
      = ((weights r' d' wq wk bq bk t (c t k) + g' t (c t k) : ℝ) : EReal) := fun k => by
    rw [perturbed_at, pay3_at (colOf r n) (rowOf d n) wq wk bq bk (candOf mc n) r' d' hr hd t k (c t k) (hc t k), EReal.coe_add]
    exact congrArg _ (hg t k)
  generalize perturbed _ _ = y at hy ⊢
  have hm := candMax_at y t _ (fun k => by rw [hy]; exact EReal.coe_le_coe_iff.mpr (m₁ k)) k₀ (by rw [hy]; exact congrArg _ m₂)
  generalize candMax y = m at hm ⊢
  have ha := fun k => attaining_at y m (candOf l n) t k
  refine spread_at _ _ t j (J t) (r' t) ((pay2_at _ t).trans (hr t)) (leastLane_at _ t _ (fun k => ?_) k₀ ?_)
  · rw [ha, hy, hm]
    split_ifs with h
    · exact (EReal.coe_le_coe_iff.mpr (Nat.cast_le.mpr (m₃ k (EReal.coe_eq_coe_iff.mp h)))).trans (le_of_eq (hl t k).symm)
    · refine EReal.coe_le_coe_iff.mpr ?_
      have := (J t).isLt
      exact_mod_cast (by omega : (J t).val ≤ 1800)
  · rw [ha, hy, hm, if_pos (congrArg _ m₂)]
    exact (hl t k₀).trans (by rw [hk₀])

end Cert.KernelIdeal.Value

end
-- ==== Proof.RefRun.lean ====
/-
  The reference's run: its operations in order, and what the buffers hold after them.
-/
module

public import proofs.«01_k».proof.Defs
public import proofs.«01_k».proof.Proof.Gen.ReferenceIdeal
public import Idealize.ShloMosaic.Lib.Claim
public import Idealize.ShloMosaic.Lib.Quiescent
public import Idealize.ShloMosaic.Lib.StableHlo.RunRead
public import Idealize.ShloMosaic.Lib.StableHlo.RunHlo

@[expose] public section

set_option maxRecDepth 16384

noncomputable section

namespace Cert.ReferenceIdeal.Value

open Idealize.ShloMosaic Idealize.SL.Sem Cert.ReferenceIdeal Cert.ReferenceIdeal.Gen

/-- A line of operations with the proof that the programs run it. -/
def lineOf {p : Dev nD → Prog (TpuEff nD τ sig (Elt Ideal) (Pipeline.Sig Λ₀ (Fin 0) fun i => (pcfgs (F := Ideal) i).Adm) .tc) PUnit}
    {l : List (HloOp τ sig (Elt Ideal))} (h : ∀ d, StableHlo.IsSeq (p d) l) :
    { l : List (HloOp τ sig (Elt Ideal)) // ∀ d, StableHlo.IsSeq (p d) l } := ⟨l, h⟩

/-- The reference's operations in order, with the proof that its program runs exactly these. -/
def line : { l : List (HloOp τ sig (Elt Ideal)) // ∀ d, StableHlo.IsSeq (main (F := Ideal) d) l } := by
  apply lineOf
  hlo_seq

/-- The reference's operations in order. -/
abbrev ops : List (HloOp τ sig (Elt Ideal)) := line.1

/-- Every buffer of the reference ends at what its operations leave there. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ (d : Dev nD) (b : Ref sig .tc), r.2.mem ((d.tc : Thread nD τ).loc b)
        = StableHlo.after ops (StableHlo.launchContents m d) (Proc.devRef .tc b) :=
  StableHlo.run_hlo _ _ line.2 (by decide) (by decide) (by simp [ops, line, lineOf])
    (by intro _ h; (repeat (cases h with | head => rfl | tail _ h => ?_)); exact nomatch h) _ _

/-- No operation of the reference writes an argument. -/
theorem args (V : Valuation τ sig (Elt Ideal)) :
    StableHlo.after ops V (Proc.devRef .tc main_arg0) = V (Proc.devRef .tc main_arg0)
    ∧ StableHlo.after ops V (Proc.devRef .tc main_arg1) = V (Proc.devRef .tc main_arg1)
    ∧ StableHlo.after ops V (Proc.devRef .tc main_arg2) = V (Proc.devRef .tc main_arg2)
    ∧ StableHlo.after ops V (Proc.devRef .tc main_arg3) = V (Proc.devRef .tc main_arg3)
    ∧ StableHlo.after ops V (Proc.devRef .tc main_arg4) = V (Proc.devRef .tc main_arg4)
    ∧ StableHlo.after ops V (Proc.devRef .tc main_arg5) = V (Proc.devRef .tc main_arg5)
    ∧ StableHlo.after ops V (Proc.devRef .tc main_arg6) = V (Proc.devRef .tc main_arg6)
    ∧ StableHlo.after ops V (Proc.devRef .tc main_arg7) = V (Proc.devRef .tc main_arg7)
    ∧ StableHlo.after ops V (Proc.devRef .tc main_arg8) = V (Proc.devRef .tc main_arg8)
    ∧ StableHlo.after ops V (Proc.devRef .tc main_arg9) = V (Proc.devRef .tc main_arg9) := by
  and_intros <;> after_reads_simp

/-- The reference runs, ends with its arguments unchanged, and is quiescent at its end. -/
theorem frame : Cert.quiescent_ReferenceIdeal := fun m ρ _ =>
  θ_run_mono (run m ρ) fun r h => by
    refine ⟨fun c => ?_, sem_eq_zero_of_no_sems (by decide) r.2⟩
    simp only [h c]
    exact args (StableHlo.launchContents m c)

/-! ## The stages -/

/-- A `4 × 4 × 1 × 30 × 30` array of patches as 16 sequences of 900 tokens, the two outer axes exchanged. -/
def seqs (x : FVec Ideal S4x4x1x30x30 .f32) : FVec Ideal S16x900x1 .f32 :=
  shapeCast S16x900x1 (transpose S4x4x1x30x30 [1, 0, 2, 3, 4] x transposes_S4x4x1x30x30_S4x4x1x30x30_1_0_2_3_4)
    shapeCasts_S4x4x1x30x30_S16x900x1

/-- A number for every token, from an array that holds one: a layer's bias or scale. -/
def each (b : FVec Ideal S1 .f32) : FVec Ideal S16x900x1 .f32 :=
  broadcastInDim S16x900x1 ![0, 1, 2] bcast_S1x1x1_S16x900x1_0_1_2 (broadcastInDim S1x1x1 ![2] bcast_S1_S1x1x1_2 b)

/-- A linear layer of one feature: every token times the weight, plus the bias. -/
def linear (x : FVec Ideal S16x900x1 .f32) (w : FVec Ideal S1x1 .f32) (b : FVec Ideal S1 .f32) : FVec Ideal S16x900x1 .f32 :=
  addf (Host.dotGeneral dot_S16x900x1_S1x1_S16x900x1_2_0_01_1_n_n none x (transpose S1x1 [1, 0] w transposes_S1x1_S1x1_1_0)) (each b)

/-- The scaled scores: every query times every key, over the square root of one. -/
def scores (q k : FVec Ideal S16x900x1 .f32) : FVec Ideal S16x900x900 .f32 :=
  Host.divf (Host.dotGeneral dot_S16x900x1_S16x900x1_S16x900x900_2_2_1_1_0_0 none q k)
    (broadcastInDim S16x900x900 ![] bcast_S_S16x900x900 (Host.sqrt (constant S_ .f32 0x3F800000#32)))

/-- A number for every row, as an array. -/
def perRow (x : FVec Ideal S16x900 .f32) : FVec Ideal S16x900x900 .f32 :=
  broadcastInDim S16x900x900 ![0, 1, 2] bcast_S16x900x1_S16x900x900_0_1_2
    (broadcastInDim S16x900x1 ![0, 1] bcast_S16x900_S16x900x1_0_1 x)

/-- The exponentials of a row less the row's maximum. -/
def expRow (x : FVec Ideal S16x900x900 .f32) : FVec Ideal S16x900x900 .f32 :=
  Host.exp (subf x (perRow (maximumf (broadcastInDim S16x900 ![] bcast_S_S16x900 (constant S_ .f32 0xFF800000#32))
    (Host.reduce FloatOps.maximumf x (constant S_ .f32 0xFF800000#32) reducesTo_S16x900x900_S16x900_d2 h_S_))))

/-- The softmax of every row. -/
def softmax (x : FVec Ideal S16x900x900 .f32) : FVec Ideal S16x900x900 .f32 :=
  Host.divf (expRow x)
    (perRow (Host.reduceAdd (expRow x) (constant S_ .f32 0x00000000#32) reducesTo_S16x900x900_S16x900_d2 h_S_))

/-- The attention weights, from the tokens of both sequences and the projections' weights and biases. -/
def attention (r d : FVec Ideal S16x900x1 .f32) (w : FVec Ideal S3x1 .f32) (b : FVec Ideal S3 .f32) : FVec Ideal S16x900x900 .f32 :=
  softmax (scores
    (linear r (extractStridedSlice S1x1 ![0, 0] w slices_S3x1_S1x1_0_0) (extractStridedSlice S1 ![0] b slices_S3_S1_0))
    (linear d (extractStridedSlice S1x1 ![1, 0] w slices_S3x1_S1x1_1_0) (extractStridedSlice S1 ![1] b slices_S3_S1_1)))

/-- A zero for every sum to start from. -/
def zero0 : FVec Ideal S_ .f32 := constant S_ .f32 0x00000000#32

/-- The mean of every token's single feature. -/
def mean1 (x : FVec Ideal S16x900x1 .f32) : FVec Ideal S16x900x1 .f32 :=
  Host.divf (broadcastInDim S16x900x1 ![0, 1] bcast_S16x900_S16x900x1_0_1
      (Host.reduceAdd x zero0 reducesTo_S16x900x1_S16x900_d2 h_S_))
    (broadcastInDim S16x900x1 ![] bcast_S_S16x900x1 (constant S_ .f32 0x3F800000#32))

/-- The layer norm over the single feature. -/
def layerNorm (x : FVec Ideal S16x900x1 .f32) (w b : FVec Ideal S1 .f32) : FVec Ideal S16x900x1 .f32 :=
  addf (mulf (Host.divf (subf x (mean1 x))
    (Host.sqrt (addf (mean1 (mulf (subf x (mean1 x)) (subf x (mean1 x))))
      (broadcastInDim S16x900x1 ![] bcast_S_S16x900x1 (constant S_ .f32 0x3727C5AC#32))))) (each w)) (each b)

/-- Every token's weighted sum of the values. -/
def weighted (a : FVec Ideal S16x900x900 .f32) (v : FVec Ideal S16x900x1 .f32) : FVec Ideal S16x900x1 .f32 :=
  Host.dotGeneral dot_S16x900x900_S16x900x1_S16x900x1_2_1_1_2_0_0 none a v

/-- What the attention adds to the tokens: the weighted values through the output projection. -/
def attended (a : FVec Ideal S16x900x900 .f32) (d : FVec Ideal S16x900x1 .f32) (w : FVec Ideal S3x1 .f32) (b : FVec Ideal S3 .f32)
    (wo : FVec Ideal S1x1 .f32) (bo : FVec Ideal S1 .f32) : FVec Ideal S16x900x1 .f32 :=
  linear (weighted a
    (linear d (extractStridedSlice S1x1 ![2, 0] w slices_S3x1_S1x1_2_0) (extractStridedSlice S1 ![2] b slices_S3_S1_2))) wo bo

/-- The weights averaged over the one head. -/
def headMean (a : FVec Ideal S16x900x900 .f32) : FVec Ideal S16x900x900 .f32 :=
  Host.divf (Host.reduceAdd (broadcastInDim S16x1x900x900 ![0, 2, 3] bcast_S16x900x900_S16x1x900x900_0_2_3 a) zero0
      reducesTo_S16x1x900x900_S16x900x900_d1 h_S_)
    (broadcastInDim S16x900x900 ![] bcast_S_S16x900x900 (constant S_ .f32 0x3F800000#32))

/-- The noise of the uniform draws. -/
def noise (u : FVec Ideal S16x900x900 .f32) : FVec Ideal S16x900x900 .f32 :=
  Host.negf (Host.log (addf (Host.negf (Host.log (addf u
      (broadcastInDim S16x900x900 ![] bcast_S_S16x900x900 (constant S_ .f32 0x322BCC77#32)))))
    (broadcastInDim S16x900x900 ![] bcast_S_S16x900x900 (constant S_ .f32 0x322BCC77#32))))

/-- The perturbed weights' softmax. -/
def sampling (a u : FVec Ideal S16x900x900 .f32) : FVec Ideal S16x900x900 .f32 :=
  softmax (Host.divf (addf (headMean a) (noise u))
    (broadcastInDim S16x900x900 ![] bcast_S_S16x900x900 (constant S_ .f32 0x3F800000#32)))

/-- The places that the argmax's reduction answers, at any shapes. -/
def places {s t u : Shape} {axes : List (Fin s.rank)} (x : FVec Ideal s .f32) (y : IVec s 32) (ix : FVec Ideal u .f32)
    (iy : IVec u 32) (h : s.ReducesTo axes t) (hu : 0 < u.numel) : IVec t 32 := fun j =>
  (Host.argReduce reducer_argmax_f32_i32 x y ix iy h hu j).2

/-- Every row's first greatest entry. -/
def argmax (p : FVec Ideal S16x900x900 .f32) : IVec S16x900 32 :=
  places p (iotaInDim S16x900x900 32 2) (constant S_ .f32 0xFF800000#32) (constantI S_ 32 0#32)
    reducesTo_S16x900x900_S16x900_d2 h_S_

/-- One at every row's given lane, zero elsewhere. -/
def oneHot (i : IVec S16x900 32) : FVec Ideal S16x900x900 .f32 :=
  uitofp .f32 (cmpi .eq
    (broadcastInDim S16x900x900 ![0, 1, 2] bcast_S16x900x1_S16x900x900_0_1_2
      (broadcastInDim S16x900x1 ![0, 1] bcast_S16x900_S16x900x1_0_1 i))
    (broadcastInDim S16x900x900 ![0, 1, 2] bcast_S1x1x900_S16x900x900_0_1_2 (iotaInDim S1x1x900 32 2)))

/-- The straight-through sample. -/
def sample (p : FVec Ideal S16x900x900 .f32) : FVec Ideal S16x900x900 .f32 := addf (subf (oneHot (argmax p)) p) p

/-- The tokens without their feature axis. -/
def flat (r : FVec Ideal S16x900x1 .f32) : FVec Ideal S16x900 .f32 := shapeCast S16x900 r shapeCasts_S16x900x1_S16x900

/-- Which tokens are not zero. -/
def valid (r : FVec Ideal S16x900x1 .f32) : IVec S16x900 1 :=
  cmpf .une (flat r) (broadcastInDim S16x900 ![] bcast_S_S16x900 (constant S_ .f32 0x00000000#32))

/-- The sampled tokens, summed where they land. -/
def landed (y : FVec Ideal S16x900x900 .f32) (r : FVec Ideal S16x900x1 .f32) : FVec Ideal S16x900x1 .f32 :=
  broadcastInDim S16x900x1 ![0, 1] bcast_S16x900_S16x900x1_0_1
    (Host.dotGeneral dot_S16x900x900_S16x900_S16x900_1_1_2_n_0_0 none y (mulf (flat r) (uitofp .f32 (valid r))))

/-- The sequences with the masked residual added. -/
def withResidual (o r n : FVec Ideal S16x900x1 .f32) (s : FVec Ideal S_ .f32) : FVec Ideal S16x900x1 .f32 :=
  addf o (mulf (mulf
      (uitofp .f32 (broadcastInDim S16x900x1 ![0, 1] bcast_S16x900_S16x900x1_0_1 (valid r)))
      (uitofp .f32 (cmpf .une o (broadcastInDim S16x900x1 ![] bcast_S_S16x900x1 (constant S_ .f32 0x00000000#32)))))
    (mulf (broadcastInDim S16x900x1 ![] bcast_S_S16x900x1 s) n))

/-- The 16 sequences as the result's array: batch, a unit axis, token, patch. -/
def layout (x : FVec Ideal S4x4x900 .f32) : FVec Ideal S4x1x900x4 .f32 :=
  broadcastInDim S4x1x900x4 ![0, 2, 3] bcast_S4x900x4_S4x1x900x4_0_2_3
    (transpose S4x900x4 [0, 2, 1] x transposes_S4x4x900_S4x900x4_0_2_1)

/-- The sequences the reference ends with, before they are laid out. -/
def sequences (rp dp : FVec Ideal S4x4x1x30x30 .f32) (w : FVec Ideal S3x1 .f32) (b : FVec Ideal S3 .f32)
    (wo : FVec Ideal S1x1 .f32) (bo lw lb : FVec Ideal S1 .f32) (s : FVec Ideal S_ .f32) (u : FVec Ideal S16x900x900 .f32) :
    FVec Ideal S16x900x1 .f32 :=
  withResidual (landed (sample (sampling (attention (seqs rp) (seqs dp) w b) u)) (seqs rp)) (seqs rp)
    (layerNorm (addf (seqs rp) (attended (attention (seqs rp) (seqs dp) w b) (seqs dp) w b wo bo)) lw lb) s

/-- The contents after `b` operations are what those past the first `a` make of the contents after `a`. -/
theorem upto_from (V : Valuation τ sig (Elt Ideal)) (l : List (HloOp τ sig (Elt Ideal))) (a b : ℕ) (h : a ≤ b) :
    StableHlo.upto l V b = StableHlo.after ((l.take b).drop a) (StableHlo.upto l V a) := by
  have e : l.take b = l.take a ++ (l.take b).drop a := by
    conv_lhs => rw [← List.take_append_drop a (l.take b), List.take_take, Nat.min_eq_left h]
  unfold StableHlo.upto
  conv_lhs => rw [e]
  generalize (l.take b).drop a = l₂
  generalize l.take a = l₁
  induction l₁ generalizing V with
  | nil => rfl
  | cons o l ih => exact ih _

/-- After 44 operations: the tokens, the attention weights and the values. -/
theorem stage1 (V : Valuation τ sig (Elt Ideal)) :
    StableHlo.upto ops V 44 (Proc.devRef .tc main_v1) = seqs (V (Proc.devRef .tc main_arg0))
    ∧ StableHlo.upto ops V 44 (Proc.devRef .tc main_v39) = attention (seqs (V (Proc.devRef .tc main_arg0)))
        (seqs (V (Proc.devRef .tc main_arg1))) (V (Proc.devRef .tc main_arg2)) (V (Proc.devRef .tc main_arg3))
    ∧ StableHlo.upto ops V 44 (Proc.devRef .tc main_v24) = linear (seqs (V (Proc.devRef .tc main_arg1)))
        (extractStridedSlice S1x1 ![2, 0] (V (Proc.devRef .tc main_arg2)) slices_S3x1_S1x1_2_0)
        (extractStridedSlice S1 ![2] (V (Proc.devRef .tc main_arg3)) slices_S3_S1_2)
    ∧ StableHlo.upto ops V 44 (Proc.devRef .tc main_arg4) = V (Proc.devRef .tc main_arg4)
    ∧ StableHlo.upto ops V 44 (Proc.devRef .tc main_arg5) = V (Proc.devRef .tc main_arg5)
    ∧ StableHlo.upto ops V 44 (Proc.devRef .tc main_arg6) = V (Proc.devRef .tc main_arg6)
    ∧ StableHlo.upto ops V 44 (Proc.devRef .tc main_arg7) = V (Proc.devRef .tc main_arg7)
    ∧ StableHlo.upto ops V 44 (Proc.devRef .tc main_arg8) = V (Proc.devRef .tc main_arg8)
    ∧ StableHlo.upto ops V 44 (Proc.devRef .tc main_arg9) = V (Proc.devRef .tc main_arg9) := by
  and_intros <;> after_reads_simp <;> rfl

/-- The operations between the 44th and the 116th: the layer norm's result and the perturbed weights' softmax. -/
theorem stage2 (W : Valuation τ sig (Elt Ideal)) :
    StableHlo.after ((ops.take 115).drop 44) W (Proc.devRef .tc main_v68)
        = layerNorm (addf (W (Proc.devRef .tc main_v1))
            (linear (weighted
              (W (Proc.devRef .tc main_v39)) (W (Proc.devRef .tc main_v24)))
              (W (Proc.devRef .tc main_arg4)) (W (Proc.devRef .tc main_arg5))))
            (W (Proc.devRef .tc main_arg6)) (W (Proc.devRef .tc main_arg7))
    ∧ StableHlo.after ((ops.take 115).drop 44) W (Proc.devRef .tc main_v96)
        = sampling (W (Proc.devRef .tc main_v39)) (W (Proc.devRef .tc main_arg9))
    ∧ StableHlo.after ((ops.take 115).drop 44) W (Proc.devRef .tc main_v69) = flat (W (Proc.devRef .tc main_v1))
    ∧ StableHlo.after ((ops.take 115).drop 44) W (Proc.devRef .tc main_v71) = valid (W (Proc.devRef .tc main_v1))
    ∧ StableHlo.after ((ops.take 115).drop 44) W (Proc.devRef .tc main_arg8) = W (Proc.devRef .tc main_arg8) := by
  and_intros <;> after_reads_simp <;> rfl

/-- The operations between the 115th and the 127th: the one-hot rows of the greatest entries. -/
theorem stage3 (W : Valuation τ sig (Elt Ideal)) :
    StableHlo.after ((ops.take 126).drop 115) W (Proc.devRef .tc main_v98) = oneHot (argmax (W (Proc.devRef .tc main_v96)))
    ∧ StableHlo.after ((ops.take 126).drop 115) W (Proc.devRef .tc main_v96) = W (Proc.devRef .tc main_v96)
    ∧ StableHlo.after ((ops.take 126).drop 115) W (Proc.devRef .tc main_v68) = W (Proc.devRef .tc main_v68)
    ∧ StableHlo.after ((ops.take 126).drop 115) W (Proc.devRef .tc main_v69) = W (Proc.devRef .tc main_v69)
    ∧ StableHlo.after ((ops.take 126).drop 115) W (Proc.devRef .tc main_v71) = W (Proc.devRef .tc main_v71)
    ∧ StableHlo.after ((ops.take 126).drop 115) W (Proc.devRef .tc main_arg8) = W (Proc.devRef .tc main_arg8) := by
  and_intros <;> after_reads_simp <;> (try simp only [StableHlo.TRef.ofBuf_toBuf]) <;> rfl

/-- The operations past the 126th: the sum where the samples land, the residual, the result's layout. -/
theorem stage4 (W : Valuation τ sig (Elt Ideal)) (r : FVec Ideal S16x900x1 .f32) (p : FVec Ideal S16x900x900 .f32)
    (h₁ : W (Proc.devRef .tc main_v69) = flat r) (h₂ : W (Proc.devRef .tc main_v71) = valid r)
    (h₃ : W (Proc.devRef .tc main_v98) = oneHot (argmax p)) (h₄ : W (Proc.devRef .tc main_v96) = p) :
    StableHlo.after (ops.drop 126) W (Proc.devRef .tc main_v118)
      = layout (shapeCast S4x4x900 (flat (withResidual (landed (sample p) r) r
          (W (Proc.devRef .tc main_v68)) (W (Proc.devRef .tc main_arg8)))) shapeCasts_S16x900_S4x4x900) := by
  after_reads_simp
  simp only [h₁, h₂, h₃, h₄]
  rfl

/-- The result's buffer ends at the sequences laid out. -/
theorem result (V : Valuation τ sig (Elt Ideal)) :
    StableHlo.after ops V (Proc.devRef .tc main_v118)
      = layout (shapeCast S4x4x900 (flat (sequences (V (Proc.devRef .tc main_arg0)) (V (Proc.devRef .tc main_arg1))
          (V (Proc.devRef .tc main_arg2)) (V (Proc.devRef .tc main_arg3)) (V (Proc.devRef .tc main_arg4))
          (V (Proc.devRef .tc main_arg5)) (V (Proc.devRef .tc main_arg6)) (V (Proc.devRef .tc main_arg7))
          (V (Proc.devRef .tc main_arg8)) (V (Proc.devRef .tc main_arg9)))) shapeCasts_S16x900_S4x4x900) := by
  obtain ⟨a₁, a₂, a₃, a₄, a₅, a₆, a₇, a₈, a₉⟩ := stage1 V
  obtain ⟨b₁, b₂, b₃, b₄, b₅⟩ := stage2 (StableHlo.upto ops V 44)
  rw [← upto_from V ops 44 115 (by decide)] at b₁ b₂ b₃ b₄ b₅
  obtain ⟨c₁, c₂, c₃, c₄, c₅, c₆⟩ := stage3 (StableHlo.upto ops V 115)
  rw [← upto_from V ops 115 126 (by decide)] at c₁ c₂ c₃ c₄ c₅ c₆
  have e : StableHlo.after ops V = StableHlo.after (ops.drop 126) (StableHlo.upto ops V 126) := by
    have h := upto_from V ops 126 ops.length (by simp [ops, line, lineOf])
    rwa [StableHlo.upto, List.take_length] at h
  rw [e, stage4 _ (seqs (V (Proc.devRef .tc main_arg0)))
    (sampling (attention (seqs (V (Proc.devRef .tc main_arg0))) (seqs (V (Proc.devRef .tc main_arg1)))
      (V (Proc.devRef .tc main_arg2)) (V (Proc.devRef .tc main_arg3))) (V (Proc.devRef .tc main_arg9)))
    (by rw [c₄, b₃, a₁]) (by rw [c₅, b₄, a₁]) (by rw [c₁, b₂, a₂, a₉]) (by rw [c₂, b₂, a₂, a₉]), c₃, c₆, b₁, b₅, a₁, a₂, a₃, a₄,
    a₅, a₆, a₇, a₈]
  rfl

end Cert.ReferenceIdeal.Value

end
-- ==== Proof.First.lean ====
/-
  The reference's argmax: every row's first greatest entry.
-/
module

public import proofs.«01_k».proof.Proof.RefRun
public import proofs.«01_k».proof.Proof.Choice
public import Idealize.ShloMosaic.Lib.Pointwise
public import Idealize.ShloMosaic.PureOps.Reduce
public import Idealize.ShloMosaic.PureOps.Ideal.Laws

@[expose] public section

set_option maxRecDepth 16384

noncomputable section

namespace Cert.ReferenceIdeal.Value

open Idealize.ShloMosaic Idealize.SL.Sem Cert.ReferenceIdeal Cert.ReferenceIdeal.Gen Cert.Draw

/-- A pair of a value and a place that the argmax prefers to another: a greater value, or an equal one at an earlier place. -/
def Beats (p q : EReal × BitVec 32) : Prop := q.1 < p.1 ∨ (p.1 = q.1 ∧ p.2.toInt < q.2.toInt)

/-- Of two pairs at most one beats the other. -/
theorem Beats.asymm {p q : EReal × BitVec 32} (h : Beats p q) : ¬ Beats q p := by
  rintro (k | ⟨k, k'⟩) <;> rcases h with h | ⟨h, h'⟩
  · exact lt_asymm h k
  · exact absurd h k.ne
  · exact absurd k h.ne
  · exact lt_asymm h' k'

/-- The argmax's body keeps its first pair where that beats the second. -/
theorem body_left {p q : EReal × BitVec 32} (h : Beats p q) : reducer_argmax_f32_i32 (F := Ideal) p q = p := by
  obtain ⟨a, i⟩ := p
  obtain ⟨b, k⟩ := q
  rcases h with h | ⟨h, h'⟩
  · simp only at h
    have o : ∀ b : BitVec 1, (1#1 : BitVec 1) ||| b = 1#1 := by decide
    simp [o, reducer_argmax_f32_i32, Ideal.cmpf_def, Ideal.cmp, IntOp.ori, IntOp.andi, Scalar.select, h]
  · simp only at h h'
    subst h
    simp [reducer_argmax_f32_i32, Ideal.cmpf_def, Ideal.cmp, IntOp.ori, IntOp.andi, IntOp.cmpi, Scalar.select, BitVec.slt, h']

/-- The argmax's body takes its second pair where the first does not beat it. -/
theorem body_right {p q : EReal × BitVec 32} (h : ¬ Beats p q) : reducer_argmax_f32_i32 (F := Ideal) p q = q := by
  obtain ⟨a, i⟩ := p
  obtain ⟨b, k⟩ := q
  simp only [Beats, not_or, not_and, not_lt] at h
  have h₁ : ¬ b < a := not_lt.mpr h.1
  by_cases e : a = b
  · have h₂ : ¬ i.toInt < k.toInt := not_lt.mpr (h.2 e)
    subst e
    simp [reducer_argmax_f32_i32, Ideal.cmpf_def, Ideal.cmp, IntOp.ori, IntOp.andi, IntOp.cmpi, Scalar.select, BitVec.slt, h₂]
  · simp [reducer_argmax_f32_i32, Ideal.cmpf_def, Ideal.cmp, IntOp.ori, IntOp.andi, IntOp.cmpi, Scalar.select, h₁, e]

/-- A fold of the body stays at a pair that beats all the others. -/
theorem fold_stays (P : EReal × BitVec 32) (l : List (EReal × BitVec 32)) (h : ∀ q ∈ l, q = P ∨ Beats P q) :
    l.foldl (reducer_argmax_f32_i32 (F := Ideal)) P = P := by
  induction l with
  | nil => rfl
  | cons q l ih =>
    have e : reducer_argmax_f32_i32 (F := Ideal) P q = P := by
      rcases h q (List.mem_cons_self ..) with e | e
      · rw [e]
        exact body_right fun k => k.asymm k
      · exact body_left e
    rw [List.foldl_cons, e]
    exact ih fun q' hq => h q' (List.mem_cons_of_mem _ hq)

/-- A fold of the body ends at the pair of the list that beats all the others and the initial one. -/
theorem fold_ends (P : EReal × BitVec 32) (l : List (EReal × BitVec 32)) (h : ∀ q ∈ l, q = P ∨ Beats P q) (hP : P ∈ l)
    (a : EReal × BitVec 32) (ha : Beats P a) : l.foldl (reducer_argmax_f32_i32 (F := Ideal)) a = P := by
  induction l generalizing a with
  | nil => cases hP
  | cons q l ih =>
    rw [List.foldl_cons]
    have hl : ∀ q' ∈ l, q' = P ∨ Beats P q' := fun q' hq => h q' (List.mem_cons_of_mem _ hq)
    by_cases e : q = P
    · rw [e, body_right ha.asymm]
      exact fold_stays P l hl
    · have hq := (h q (List.mem_cons_self ..)).resolve_left e
      have hP' : P ∈ l := (List.mem_cons.mp hP).resolve_left fun k => e k.symm
      by_cases k : Beats a q
      · rw [body_left k]
        exact ih hl hP' a ha
      · rw [body_right k]
        exact ih hl hP' q hq

/-- A source index lies in a row exactly when its first two coordinates are the row's. -/
theorem drop_row (i : S16x900x900.Idx) (n : Fin 16) (t : Fin 900) :
    reducesTo_S16x900x900_S16x900_d2.drop i = ix2 n t ↔ ∃ l : Fin 900, i = ix3 n t l := by
  have h₀ : ((reducesTo_S16x900x900_S16x900_d2.drop i 0 : Fin _) : ℕ) = i 0 :=
    Shape.ReducesTo.drop_apply_val_of_eq _ i 0 0
  have h₁ : ((reducesTo_S16x900x900_S16x900_d2.drop i 1 : Fin _) : ℕ) = i 1 :=
    Shape.ReducesTo.drop_apply_val_of_eq _ i 1 1
  constructor
  · intro e
    rw [e] at h₀ h₁
    refine ⟨i 2, ?_⟩
    rw [eq_ix3 i]
    exact congrArg₂ (fun a b => ix3 a b (i 2)) (Fin.ext h₀.symm) (Fin.ext h₁.symm)
  · rintro ⟨l, rfl⟩
    rw [eq_ix2 (reducesTo_S16x900x900_S16x900_d2.drop (ix3 n t l))]
    exact congrArg₂ ix2 (Fin.ext h₀) (Fin.ext h₁)

/-- The place that the argmax's reduction answers is that of the row's pair that beats all the row's others and the initial one. -/
theorem places_ends {s t u : Shape} {axes : List (Fin s.rank)} (x : FVec Ideal s .f32) (y : IVec s 32) (ix : FVec Ideal u .f32)
    (iy : IVec u 32) (h : s.ReducesTo axes t) (hu : 0 < u.numel) (j : t.Idx) (P : EReal × BitVec 32)
    (hl : ∀ i, h.drop i = j → (x i, y i) = P ∨ Beats P (x i, y i)) (hP : ∃ i, h.drop i = j ∧ (x i, y i) = P)
    (ha : Beats P (ix (Shape.Idx.first hu), iy (Shape.Idx.first hu))) : places x y ix iy h hu j = P.2 := by
  refine congrArg Prod.snd (?_ : Host.argReduce reducer_argmax_f32_i32 x y ix iy h hu j = P)
  rw [Ideal.argReduce_eq_reduce2, Host.reduce2_eq_foldl_fiber]
  refine fold_ends P _ ?_ ?_ _ ha
  · intro q hq
    simp only [Host.argReduceFiber, List.mem_map, List.mem_filter, decide_eq_true_eq] at hq
    obtain ⟨k, ⟨-, hk⟩, rfl⟩ := hq
    exact hl _ hk
  · simp only [Host.argReduceFiber, List.mem_map, List.mem_filter, decide_eq_true_eq]
    obtain ⟨i, hi, e⟩ := hP
    refine ⟨s.rowMajor i, ⟨List.mem_finRange _, ?_⟩, ?_⟩
    · rw [Equiv.symm_apply_apply]
      exact hi
    · rw [Equiv.symm_apply_apply]
      exact e

/-- A lane as a signed word. -/
theorem lane_toInt (l : Fin 900) : (BitVec.ofNat 32 l.val).toInt = l.val := by
  have := l.isLt
  simp only [BitVec.toInt_ofNat']
  rw [Int.bmod_eq_of_le] <;> omega

/-- The lanes' array at an index. -/
theorem lane_at (n : Fin 16) (t l : Fin 900) : iotaInDim S16x900x900 32 2 (ix3 n t l) = BitVec.ofNat 32 l.val := rfl

/-- The maximum's start at its one index. -/
theorem start_at (i : S_.Idx) : (constant S_ .f32 0xFF800000#32 : FVec Ideal S_ .f32) i = (⊥ : EReal) := by
  show Ideal.ofBits .f32 0xFF800000#32 = ⊥
  simp [Ideal.ofBits, Ideal.ieee]

/-- At real entries the first greatest entry's pair beats the others of its row. -/
theorem first_beats (f : Fin 900 → ℝ) (J : Fin 900) (hJ : IsFirst f J) (l : Fin 900) :
    ((f l : EReal), BitVec.ofNat 32 l.val) = ((f J : EReal), BitVec.ofNat 32 J.val)
      ∨ Beats ((f J : EReal), BitVec.ofNat 32 J.val) ((f l : EReal), BitVec.ofNat 32 l.val) := by
  rcases lt_trichotomy l J with h | h | h
  · exact Or.inr (Or.inl (EReal.coe_lt_coe_iff.mpr (hJ.2 l h)))
  · exact Or.inl (by rw [h])
  · rcases lt_or_eq_of_le (hJ.1 l) with h' | h'
    · exact Or.inr (Or.inl (EReal.coe_lt_coe_iff.mpr h'))
    · refine Or.inr (Or.inr ⟨by simp only [h'], ?_⟩)
      simp only [lane_toInt]
      exact_mod_cast h

/-- At real entries the argmax of a row is its first greatest entry's lane. -/
theorem argmax_at (p : FVec Ideal S16x900x900 .f32) (n : Fin 16) (t : Fin 900) (f : Fin 900 → ℝ)
    (hp : ∀ l, p (ix3 n t l) = (f l : EReal)) (J : Fin 900) (hJ : IsFirst f J) : argmax p (ix2 n t) = BitVec.ofNat 32 J.val := by
  refine places_ends p (iotaInDim S16x900x900 32 2) _ _ _ _ _ ((f J : EReal), BitVec.ofNat 32 J.val) ?_ ?_ ?_
  · intro i hi
    obtain ⟨l, rfl⟩ := (drop_row i n t).mp hi
    rw [hp, lane_at]
    exact first_beats f J hJ l
  · exact ⟨ix3 n t J, (drop_row _ n t).mpr ⟨J, rfl⟩, by rw [hp, lane_at]⟩
  · rw [start_at]
    exact Or.inl (EReal.bot_lt_coe _)

end Cert.ReferenceIdeal.Value

end
-- ==== Proof.Operands.lean ====
/-
  The launch's operands at an index, and the result's array read from the launch's output.
-/
module

public import proofs.«01_k».proof.Proof.KerValue
public import proofs.«01_k».proof.Proof.First

@[expose] public section

set_option maxRecDepth 16384

noncomputable section

namespace Cert.KernelIdeal.Value

open Idealize.ShloMosaic Idealize.SL.Sem Cert.KernelIdeal Cert.KernelIdeal.Gen

/-- Sequence `n` of the patches is patch `n / 4` of batch `n % 4`, its tokens row by row. -/
theorem seqs_at (x : FVec Ideal S4x4x1x30x30 .f32) (n : Fin 16) (t : Fin 900) :
    seqs x (ix2 n t) = x (ix5 ⟨n.val % 4, by omega⟩ ⟨n.val / 4, by omega⟩ 0 ⟨t.val / 30, by omega⟩ ⟨t.val % 30, by omega⟩) := by
  pointwise [seqs]

/-- A column of tokens, read at a token. -/
theorem tokens_col_at (x : FVec Ideal S16x900 .f32) (n : Fin 16) (t : Fin 900) :
    shapeCast S16x900x1 x shapeCasts_S16x900_S16x900x1 (ix3 n t 0) = x (ix2 n t) := by pointwise []

/-- A row of tokens, read at a token. -/
theorem tokens_row_at (x : FVec Ideal S16x900 .f32) (n : Fin 16) (t : Fin 900) :
    shapeCast S16x1x900 x shapeCasts_S16x900_S16x1x900 (ix3 n 0 t) = x (ix2 n t) := by pointwise []

/-- The four parameters are the two weights and the two biases of the projections. -/
theorem params_at (w : FVec Ideal S3x1 .f32) (b : FVec Ideal S3 .f32) :
    params w b (ix1 0) = w (ix2 0 0) ∧ params w b (ix1 1) = w (ix2 1 0) ∧ params w b (ix1 2) = b (ix1 0)
      ∧ params w b (ix1 3) = b (ix1 1) := by
  and_intros <;> pointwise [params, one]

/-- A lane as a number. -/
theorem lane_number (l : IVec S16x900x24 32) (n : Fin 16) (t : Fin 900) (k : Fin 24) (c : Fin 900)
    (h : l (ix3 n t k) = BitVec.ofNat 32 c.val) :
    sitofp (F := Ideal) .f32 l (ix3 n t k) = ((c.val : ℝ) : EReal) := by
  show ((((l (ix3 n t k)).toInt : ℝ)) : EReal) = _
  rw [h, Cert.ReferenceIdeal.Value.lane_toInt]
  norm_cast

/-- The 16 sequences as the result's array: batch, a unit axis, token, patch. -/
def layout (x : FVec Ideal S4x4x900 .f32) : FVec Ideal S4x1x900x4 .f32 :=
  broadcastInDim S4x1x900x4 ![0, 2, 3] bcast_S4x900x4_S4x1x900x4_0_2_3
    (transpose S4x900x4 [0, 2, 1] x transposes_S4x4x900_S4x900x4_0_2_1)

variable (m : (ℓ : Loc nD τ sig) → Buf (Elt Ideal) ℓ)

/-- The operations after the launch lay the launch's output out. -/
theorem after_tail (W : Valuation τ sig (Elt Ideal)) : StableHlo.after hostOps1 W (Proc.devRef .tc main_v37)
    = layout (shapeCast S4x4x900 (W (Proc.devRef .tc main_v34) : FVec Ideal S16x1x900 .f32) shapeCasts_S16x1x900_S4x4x900) := by
  after_reads_simp
  rfl

/-- The result's array is the launch's output laid out. -/
theorem tail (c : Dev nD) : Pipeline.afterTail₀ cfgs (dats m) 0 (V0 m) [hostOps1] c main_v37
    = layout (shapeCast S4x4x900 ((dats m 0 c).arrAt 6 cfg0.N : FVec Ideal S16x1x900 .f32) shapeCasts_S16x1x900_S4x4x900) := by
  unfold Pipeline.afterTail₀
  refine (after_tail _).trans ?_
  refine congrArg (fun x => layout (shapeCast S4x4x900 (x : FVec Ideal S16x1x900 .f32) shapeCasts_S16x1x900_S4x4x900)) ?_
  exact Pipeline.withArrays_arr _ winFacts0.arr_inj c (V0 m c) (fun w => (dats m 0 c).arrAt w cfg0.N) 6

end Cert.KernelIdeal.Value
-- ==== Proof.RefValue.lean ====
/-
  The reference's stages at an index, at real entries: its sequences are the sampled tokens summed where they land.
-/
module

public import proofs.«01_k».proof.Proof.RefRun
public import proofs.«01_k».proof.Proof.First
public import proofs.«01_k».proof.Proof.Reading
public import Idealize.ShloMosaic.Lib.Pointwise

@[expose] public section

set_option maxRecDepth 16384

noncomputable section

namespace Cert.ReferenceIdeal.Value

open Idealize.ShloMosaic Idealize.SL.Sem Cert.ReferenceIdeal Cert.ReferenceIdeal.Gen Cert.Draw

/-- A sum over one index. -/
theorem sum_one (f : Fin 1 → EReal) : ∑ i, f i = f 0 := by
  simp only [Finset.univ_unique, Fin.default_eq_zero, Finset.sum_singleton]

/-- A number per row, spread over the row's lanes. -/
theorem perRow_at (x : FVec Ideal S16x900 .f32) (n : Fin 16) (t l : Fin 900) : perRow x (ix3 n t l) = x (ix2 n t) := by
  pointwise [perRow]

/-- A maximum with minus infinity. -/
theorem above_bot_at (y : FVec Ideal S16x900 .f32) (j : S16x900.Idx) :
    maximumf (broadcastInDim S16x900 ![] bcast_S_S16x900 (constant S_ .f32 0xFF800000#32)) y j = y j := by
  pointwise
  rw [ofBits_bot]
  exact max_eq_right bot_le

/-- The reduction by the maximum of a row of real entries is the row's greatest one. -/
theorem reduceMax_at (x : FVec Ideal S16x900x900 .f32) (n : Fin 16) (t : Fin 900) (f : Fin 900 → ℝ)
    (hx : ∀ l, x (ix3 n t l) = (f l : EReal)) :
    Host.reduce FloatOps.maximumf x (constant S_ .f32 0xFF800000#32) reducesTo_S16x900x900_S16x900_d2 h_S_ (ix2 n t)
      = (most f : EReal) := by
  refine reduce_max_eq x _ _ _ _ _ start_at (fun i hi => ?_) ?_
  · obtain ⟨l, rfl⟩ := (drop_row i n t).mp hi
    rw [hx]
    exact EReal.coe_le_coe_iff.mpr (Finset.le_sup' f (Finset.mem_univ l))
  · obtain ⟨M, -, hM⟩ := Finset.exists_mem_eq_sup' ⟨0, Finset.mem_univ _⟩ f
    exact ⟨ix3 n t M, (drop_row _ n t).mpr ⟨M, rfl⟩, by rw [hx, most, hM]⟩

/-- Every real entry is exponentiated after the row's maximum is taken off. -/
theorem expRow_at (x : FVec Ideal S16x900x900 .f32) (n : Fin 16) (t l : Fin 900) (f : Fin 900 → ℝ)
    (hx : ∀ l, x (ix3 n t l) = (f l : EReal)) : expRow x (ix3 n t l) = Ideal.exp ((f l : EReal) - (most f : EReal)) := by
  unfold expRow
  have e := (perRow_at _ n t l).trans ((above_bot_at _ _).trans (reduceMax_at x n t f hx))
  generalize perRow _ = y at e ⊢
  pointwise
  rw [hx, e]

/-- The sum of a row from zero. -/
theorem rowSum_at (x : FVec Ideal S16x900x900 .f32) (n : Fin 16) (t : Fin 900) :
    Host.reduceAdd x (constant S_ .f32 0x00000000#32) reducesTo_S16x900x900_S16x900_d2 h_S_ (ix2 n t) = ∑ l, (x (ix3 n t l) : EReal) := by
  pointwise

/-- A row's softmax at real entries. -/
theorem softmax_at (x : FVec Ideal S16x900x900 .f32) (n : Fin 16) (t l : Fin 900) (f : Fin 900 → ℝ)
    (hx : ∀ l, x (ix3 n t l) = (f l : EReal)) : softmax x (ix3 n t l) = (soft f l : EReal) := by
  have e := (perRow_at _ n t l).trans (rowSum_at (expRow x) n t)
  have e' := fun l => expRow_at x n t l f hx
  unfold softmax
  generalize expRow x = y at e e' ⊢
  generalize perRow _ = z at e ⊢
  pointwise
  rw [e, e']
  simp only [e']
  exact soft_read f l

/-- A projection is the token times the weight, plus the bias. -/
theorem linear_at (x : FVec Ideal S16x900x1 .f32) (w : FVec Ideal S1x1 .f32) (b : FVec Ideal S1 .f32) (n : Fin 16) (t : Fin 900)
    (x' w' b' : ℝ) (hx : x (ix3 n t 0) = (x' : EReal)) (hw : w (ix2 0 0) = (w' : EReal)) (hb : b (ix1 0) = (b' : EReal)) :
    linear x w b (ix3 n t 0) = ((x' * w' + b' : ℝ) : EReal) := by
  pointwise [linear, each]
  rw [sum_one, hx, hw, hb, EReal.coe_add, EReal.coe_mul]

/-- A score is the query times the key. -/
theorem scores_at (q k : FVec Ideal S16x900x1 .f32) (n : Fin 16) (t l : Fin 900) (q' k' : ℝ)
    (hq : q (ix3 n t 0) = (q' : EReal)) (hk : k (ix3 n l 0) = (k' : EReal)) :
    scores q k (ix3 n t l) = ((q' * k' : ℝ) : EReal) := by
  pointwise [scores]
  rw [sum_one, hq, hk, sqrt_one', div_one', EReal.coe_mul]

/-- One of the projection's weights. -/
theorem weight_at (w : FVec Ideal S3x1 .f32) : extractStridedSlice S1x1 ![0, 0] w slices_S3x1_S1x1_0_0 (ix2 0 0) = w (ix2 0 0)
    ∧ extractStridedSlice S1x1 ![1, 0] w slices_S3x1_S1x1_1_0 (ix2 0 0) = w (ix2 1 0)
    ∧ extractStridedSlice S1x1 ![2, 0] w slices_S3x1_S1x1_2_0 (ix2 0 0) = w (ix2 2 0) := by
  refine ⟨?_, ?_, ?_⟩ <;> pointwise

/-- One of the projection's biases. -/
theorem bias_at (b : FVec Ideal S3 .f32) : extractStridedSlice S1 ![0] b slices_S3_S1_0 (ix1 0) = b (ix1 0)
    ∧ extractStridedSlice S1 ![1] b slices_S3_S1_1 (ix1 0) = b (ix1 1)
    ∧ extractStridedSlice S1 ![2] b slices_S3_S1_2 (ix1 0) = b (ix1 2) := by
  refine ⟨?_, ?_, ?_⟩ <;> pointwise

/-- The attention weights at real tokens and projections. -/
theorem attention_at (r d : FVec Ideal S16x900x1 .f32) (w : FVec Ideal S3x1 .f32) (b : FVec Ideal S3 .f32) (n : Fin 16) (t l : Fin 900)
    (r' d' : Fin 900 → ℝ) (w' b' : Fin 3 → ℝ) (hr : ∀ t, r (ix3 n t 0) = (r' t : EReal)) (hd : ∀ t, d (ix3 n t 0) = (d' t : EReal))
    (hw : ∀ i, w (ix2 i 0) = (w' i : EReal)) (hb : ∀ i, b (ix1 i) = (b' i : EReal)) :
    attention r d w b (ix3 n t l) = (weights r' d' (w' 0) (w' 1) (b' 0) (b' 1) t l : EReal) := by
  unfold attention
  refine softmax_at _ n t l _ fun j => scores_at _ _ n t j _ _ ?_ ?_
  · exact linear_at _ _ _ n t _ _ _ (hr t) ((weight_at w).1.trans (hw 0)) ((bias_at b).1.trans (hb 0))
  · exact linear_at _ _ _ n j _ _ _ (hd j) ((weight_at w).2.1.trans (hw 1)) ((bias_at b).2.1.trans (hb 1))

/-- What the attention adds to a token is real. -/
theorem attended_at (a : FVec Ideal S16x900x900 .f32) (d : FVec Ideal S16x900x1 .f32) (w : FVec Ideal S3x1 .f32) (b : FVec Ideal S3 .f32)
    (wo : FVec Ideal S1x1 .f32) (bo : FVec Ideal S1 .f32) (n : Fin 16) (t : Fin 900)
    (a' d' : Fin 900 → ℝ) (w' b' : Fin 3 → ℝ) (o p : ℝ) (ha : ∀ l, a (ix3 n t l) = (a' l : EReal)) (hd : ∀ t, d (ix3 n t 0) = (d' t : EReal))
    (hw : ∀ i, w (ix2 i 0) = (w' i : EReal)) (hb : ∀ i, b (ix1 i) = (b' i : EReal))
    (ho : wo (ix2 0 0) = (o : EReal)) (hp : bo (ix1 0) = (p : EReal)) :
    ∃ v : ℝ, attended a d w b wo bo (ix3 n t 0) = (v : EReal) := by
  have h : ∀ v : FVec Ideal S16x900x1 .f32, weighted a v (ix3 n t 0) = ∑ l, (a (ix3 n t l) : EReal) * v (ix3 n l 0) := fun v => by
    pointwise [weighted]
  refine ⟨_, linear_at _ _ _ n t (∑ l, a' l * (d' l * w' 2 + b' 2)) o p ((h _).trans ?_) ho hp⟩
  rw [← sum_coe]
  refine Finset.sum_congr rfl fun l _ => ?_
  rw [ha, linear_at _ _ _ n l _ _ _ (hd l) ((weight_at w).2.2.trans (hw 2)) ((bias_at b).2.2.trans (hb 2)), ← EReal.coe_mul]

/-- The mean over the one head is the head's weight. -/
theorem headMean_at (a : FVec Ideal S16x900x900 .f32) (n : Fin 16) (t l : Fin 900) : headMean a (ix3 n t l) = a (ix3 n t l) := by
  pointwise [headMean, zero0]
  rw [sum_one, div_one']

/-- The mean of one feature is the feature. -/
theorem mean1_at (x : FVec Ideal S16x900x1 .f32) (n : Fin 16) (t : Fin 900) : mean1 x (ix3 n t 0) = x (ix3 n t 0) := by
  pointwise [mean1, zero0]
  rw [sum_one, div_one']

/-- The layer norm of one real feature, the bias zero, is zero. -/
theorem layerNorm_at (x : FVec Ideal S16x900x1 .f32) (w b : FVec Ideal S1 .f32) (n : Fin 16) (t : Fin 900) (x' : ℝ)
    (hx : x (ix3 n t 0) = (x' : EReal)) (hb : b (ix1 0) = (0 : EReal)) : layerNorm x w b (ix3 n t 0) = (0 : EReal) := by
  have e : ∀ y : FVec Ideal S16x900x1 .f32, mean1 y (ix3 n t 0) = (x' : EReal) →
      mulf (subf x y) (subf x y) (ix3 n t 0) = (x (ix3 n t 0) - y (ix3 n t 0) : EReal) * (x (ix3 n t 0) - y (ix3 n t 0)) := fun y _ => by
    pointwise
  have z : (x' : EReal) - (x' : EReal) = ((0 : ℝ) : EReal) := by rw [← EReal.coe_sub, sub_self]
  obtain ⟨v, hv, ev⟩ := ofBits_var
  have k := mean1_at (mulf (subf x (mean1 x)) (subf x (mean1 x))) n t
  have k' : mulf (subf x (mean1 x)) (subf x (mean1 x)) (ix3 n t 0) = ((0 : ℝ) : EReal) := by
    have := mean1_at x n t
    generalize mean1 x = y at this ⊢
    pointwise
    rw [this, hx, z, ← EReal.coe_mul, mul_zero]
  rw [k'] at k
  unfold layerNorm
  generalize mean1 (mulf _ _) = q at k ⊢
  have k₂ := mean1_at x n t
  generalize mean1 x = y at k₂ ⊢
  pointwise [each]
  rw [hb, k₂, k, ev, hx, z, ← EReal.coe_add, zero_add, sqrt_coe v hv.le, div_coe _ _ (Real.sqrt_pos.mpr hv).ne', zero_div,
    EReal.coe_zero, zero_mul, zero_add]

/-- The noise at a real draw in [0, 1). -/
theorem noise_at (u : FVec Ideal S16x900x900 .f32) (n : Fin 16) (t l : Fin 900) (u' : ℝ) (hu : u (ix3 n t l) = (u' : EReal))
    (h₀ : 0 ≤ u') (h₁ : u' < 1) : noise u (ix3 n t l) = (gumbel eps u' : EReal) := by
  pointwise [noise]
  rw [hu, ofBits_eps]
  exact gumbel_read u' h₀ h₁

/-- The perturbed weights' softmax at real weights and noise. -/
theorem sampling_at (a u : FVec Ideal S16x900x900 .f32) (n : Fin 16) (t l : Fin 900) (a' g : Fin 900 → ℝ)
    (ha : ∀ l, a (ix3 n t l) = (a' l : EReal)) (hg : ∀ l, noise u (ix3 n t l) = (g l : EReal)) :
    sampling a u (ix3 n t l) = (soft (fun j => a' j + g j) l : EReal) := by
  unfold sampling
  refine softmax_at _ n t l _ fun j => ?_
  have e := (headMean_at a n t j).trans (ha j)
  have e' := hg j
  generalize headMean a = x at e ⊢
  generalize noise u = y at e' ⊢
  pointwise
  rw [e, e', div_one', EReal.coe_add]

/-- One at the given lane, zero elsewhere. -/
theorem oneHot_at (i : IVec S16x900 32) (n : Fin 16) (t l J : Fin 900) (hi : i (ix2 n t) = BitVec.ofNat 32 J.val) :
    oneHot i (ix3 n t l) = ((if l = J then 1 else 0 : ℝ) : EReal) := by
  pointwise [oneHot]
  rw [hi]
  by_cases h : l = J
  · subst h
    simp [IntOp.cmpi, FloatOps.uitofp]
  · have : ¬ BitVec.ofNat 32 J.val = BitVec.ofNat 32 l.val := fun e => h (by
      have := congrArg BitVec.toInt e
      rw [lane_toInt, lane_toInt] at this
      exact Fin.ext (by omega))
    simp [IntOp.cmpi, FloatOps.uitofp, h, this]

/-- The sample of a row of real entries: one at the first greatest entry's lane, zero elsewhere. -/
theorem sample_at (p : FVec Ideal S16x900x900 .f32) (n : Fin 16) (t l : Fin 900) (f : Fin 900 → ℝ)
    (hp : ∀ l, p (ix3 n t l) = (f l : EReal)) (J : Fin 900) (hJ : IsFirst f J) :
    sample p (ix3 n t l) = ((if l = J then 1 else 0 : ℝ) : EReal) := by
  have e := oneHot_at (argmax p) n t l J (argmax_at p n t f hp J hJ)
  unfold sample
  generalize oneHot (argmax p) = y at e ⊢
  pointwise
  rw [e, hp, ← EReal.coe_sub, ← EReal.coe_add, sub_add_cancel]

/-- What lands at a token: the sum of the tokens whose row samples it. -/
theorem landed_at (y : FVec Ideal S16x900x900 .f32) (r : FVec Ideal S16x900x1 .f32) (n : Fin 16) (l : Fin 900)
    (J : Fin 900 → Fin 900) (r' : Fin 900 → ℝ) (hy : ∀ t, y (ix3 n t l) = ((if l = J t then 1 else 0 : ℝ) : EReal))
    (hr : ∀ t, r (ix3 n t 0) = (r' t : EReal)) :
    landed y r (ix3 n l 0) = (land r' J l : EReal) := by
  unfold land
  pointwise [landed, flat, valid]
  rw [← sum_coe]
  refine Finset.sum_congr rfl fun t _ => ?_
  have e : (r (ix3 n t 0) : EReal) * FloatOps.uitofp (F := Ideal) .f32 (BitVec.ofBool (decide ((r (ix3 n t 0) : EReal) ≠ 0))) = (r' t : EReal) := by
    rw [hr]
    by_cases h : (r' t : EReal) = 0
    · rw [h, zero_mul]
    · simp [FloatOps.uitofp, h]
  rw [e, hy, ← EReal.coe_mul, ite_mul, one_mul, zero_mul]

/-- A residual of zero adds nothing. -/
theorem withResidual_at (o r z : FVec Ideal S16x900x1 .f32) (s : FVec Ideal S_ .f32) (n : Fin 16) (t : Fin 900)
    (hz : z (ix3 n t 0) = (0 : EReal)) : withResidual o r z s (ix3 n t 0) = o (ix3 n t 0) := by
  pointwise [withResidual, flat, valid]
  rw [hz, mul_zero, mul_zero, add_zero]

/-- The reference's sequences at real arguments: with `J t` the first greatest sum of row `t`'s weights and noise, the
    tokens summed where `J` sends them. -/
theorem sequences_at (rp dp : FVec Ideal S4x4x1x30x30 .f32) (w : FVec Ideal S3x1 .f32) (b : FVec Ideal S3 .f32)
    (wo : FVec Ideal S1x1 .f32) (bo lw lb : FVec Ideal S1 .f32) (s : FVec Ideal S_ .f32) (u : FVec Ideal S16x900x900 .f32)
    (n : Fin 16) (l : Fin 900) (r d : Fin 900 → ℝ) (w' b' : Fin 3 → ℝ) (o p : ℝ) (g : Fin 900 → Fin 900 → ℝ) (J : Fin 900 → Fin 900)
    (hr : ∀ t, seqs rp (ix3 n t 0) = (r t : EReal)) (hd : ∀ t, seqs dp (ix3 n t 0) = (d t : EReal))
    (hw : ∀ i, w (ix2 i 0) = (w' i : EReal)) (hb : ∀ i, b (ix1 i) = (b' i : EReal))
    (ho : wo (ix2 0 0) = (o : EReal)) (hp : bo (ix1 0) = (p : EReal)) (hlb : lb (ix1 0) = (0 : EReal))
    (hg : ∀ t l, noise u (ix3 n t l) = (g t l : EReal))
    (hJ : ∀ t, IsFirst (fun j => weights r d (w' 0) (w' 1) (b' 0) (b' 1) t j + g t j) (J t)) :
    sequences rp dp w b wo bo lw lb s u (ix3 n l 0) = (land r J l : EReal) := by
  have ha := fun t l => attention_at (seqs rp) (seqs dp) w b n t l r d w' b' hr hd hw hb
  have hadd : ∀ x y : FVec Ideal S16x900x1 .f32, addf x y (ix3 n l 0) = (x (ix3 n l 0) + y (ix3 n l 0) : EReal) := fun x y => by
    pointwise
  obtain ⟨v, hv⟩ := attended_at (attention (seqs rp) (seqs dp) w b) (seqs dp) w b wo bo n l _ d w' b' o p (ha l) hd hw hb ho hp
  unfold sequences
  refine (withResidual_at _ _ _ s n l (layerNorm_at _ lw lb n l (r l + v) ?_ hlb)).trans ?_
  · rw [hadd, hv, hr, EReal.coe_add]
  · refine landed_at _ _ n l J r (fun t => ?_) hr
    exact sample_at _ n t l _ (fun k => sampling_at _ u n t k _ (g t) (ha t) (hg t)) (J t) (isFirst_soft.mpr (hJ t))

end Cert.ReferenceIdeal.Value

end
-- ==== Proof.Tame.lean ====
/-
  What the precondition says: the tokens and the attention's parameters are real, the layer norm's bias is zero, the draws
  lie in [0, 1), and in every row at most 24 noises are above the row's greatest less one.
-/
module

public import proofs.«01_k».proof.Pre_tame
public import proofs.«01_k».proof.Proof.RefValue
public import Idealize.ShloMosaic.Lib.ReduceAll
public import Idealize.ShloMosaic.Lib.IndicatorCount

@[expose] public section

set_option maxRecDepth 16384

noncomputable section

namespace Cert.Pre_tame.Value

open Idealize.ShloMosaic Cert.Pre_tame Cert.Draw

variable [Facts]
open Facts

/-- Which entries are finite. -/
def finite {s : Shape} (x : FVec Ideal s .f32) (h : S_.BroadcastsInDim s (![] : Fin 0 → Fin s.rank)) : IVec s 1 :=
  cmpf .olt (Host.absf x) (broadcastInDim s ![] h (constant S_ .f32 0x7F800000#32))

/-- Whether all the bits are set. -/
def all {s : Shape} {axes : List (Fin s.rank)} (x : IVec s 1) (h : s.ReducesTo axes S_) : IVec S_ 1 :=
  Host.reduce IntOp.andi x (constantI S_ 1 1#1) h h_S_

/-- Which draws lie in [0, 1). -/
def drawn (u : FVec Ideal S16x900x900 .f32) : IVec S16x900x900 1 :=
  andi (cmpf .oge u (broadcastInDim S16x900x900 ![] bcast_S_S16x900x900 (constant S_ .f32 0x00000000#32)))
    (cmpf .olt u (broadcastInDim S16x900x900 ![] bcast_S_S16x900x900 (constant S_ .f32 0x3F800000#32)))

/-- Every row's greatest entry. -/
def rowMax (g : FVec Ideal S16x900x900 .f32) : FVec Ideal S16x900 .f32 :=
  Host.reduce FloatOps.maximumf g (constant S_ .f32 0xFF800000#32) reducesTo_S16x900x900_S16x900_d2 h_S_

/-- Which entries are above a row's number less one. -/
def near (g : FVec Ideal S16x900x900 .f32) (m : FVec Ideal S16x900 .f32) : IVec S16x900x900 1 :=
  cmpf .ogt g (broadcastInDim S16x900x900 ![0, 1, 2] bcast_S16x900x1_S16x900x900_0_1_2
    (subf (broadcastInDim S16x900x1 ![0, 1] bcast_S16x900_S16x900x1_0_1 m)
      (broadcastInDim S16x900x1 ![] bcast_S_S16x900x1 (constant S_ .f32 0x3F800000#32))))

/-- Which rows hold at most the limit's number of set bits, at any shapes. -/
def within {s t u : Shape} {axes : List (Fin s.rank)} (p : IVec s 1) (init : IVec u 32) (lim : IVec t 32) (hlt : 1 < 32)
    (h : s.ReducesTo axes t) (hu : 0 < u.numel) : IVec t 1 :=
  cmpi .sle (Host.reduce IntOp.addi (extui 32 p hlt) init h hu) lim

/-- Which rows hold at most 24 set bits. -/
def few (p : IVec S16x900x900 1) : IVec S16x900 1 :=
  within p (constantI S_ 32 0#32) (broadcastInDim S16x900 ![] bcast_S_S16x900 (constantI S_ 32 24#32)) natLt_1_32
    reducesTo_S16x900x900_S16x900_d2 h_S_

/-- The noise of the uniform draws. -/
def noise (u : FVec Ideal S16x900x900 .f32) : FVec Ideal S16x900x900 .f32 :=
  Host.negf (Host.log (addf (Host.negf (Host.log (addf u
      (broadcastInDim S16x900x900 ![] bcast_S_S16x900x900 (constant S_ .f32 0x322BCC77#32)))))
    (broadcastInDim S16x900x900 ![] bcast_S_S16x900x900 (constant S_ .f32 0x322BCC77#32))))

/-- The precondition is the conjunction of its tests. -/
theorem fn_eq (a₀ a₁ : FVec Ideal S4x4x1x30x30 .f32) (a₂ : FVec Ideal S3x1 .f32) (a₃ : FVec Ideal S3 .f32) (a₄ : FVec Ideal S1x1 .f32)
    (a₅ a₆ a₇ : FVec Ideal S1 .f32) (a₈ : FVec Ideal S_ .f32) (a₉ : FVec Ideal S16x900x900 .f32) :
    fn (F := Ideal) a₀ a₁ a₂ a₃ a₄ a₅ a₆ a₇ a₈ a₉
      = andi (andi (andi (andi (andi (andi (andi (andi
          (all (finite a₀ bcast_S_S4x4x1x30x30) reducesTo_S4x4x1x30x30_S_d0_1_2_3_4)
          (all (finite a₁ bcast_S_S4x4x1x30x30) reducesTo_S4x4x1x30x30_S_d0_1_2_3_4))
          (all (finite a₂ bcast_S_S3x1) reducesTo_S3x1_S_d0_1))
          (all (finite a₃ bcast_S_S3) reducesTo_S3_S_d0))
          (all (finite a₄ bcast_S_S1x1) reducesTo_S1x1_S_d0_1))
          (all (finite a₅ bcast_S_S1) reducesTo_S1_S_d0))
          (all (cmpf .oeq a₇ (broadcastInDim S1 ![] bcast_S_S1 (constant S_ .f32 0x00000000#32))) reducesTo_S1_S_d0))
          (all (drawn a₉) reducesTo_S16x900x900_S_d0_1_2))
          (all (few (near (noise a₉) (rowMax (noise a₉)))) reducesTo_S16x900_S_d0_1) := rfl

/-! ## Each test's meaning -/

/-- An array without axes has one index. -/
instance : Subsingleton S_.Idx := ⟨fun a b => funext fun i => i.elim0⟩

/-- A test of all entries that succeeds gives the test of each. -/
theorem all_at {s : Shape} {axes : List (Fin s.rank)} (x : IVec s 1) (h : s.ReducesTo axes S_) (e : all x h ix0 = 1#1) (i : s.Idx) :
    x i = 1#1 := Host.reduce_andi_all x _ h h_S_ ix0 e i

/-- A condition's bit is one only where the condition holds. -/
theorem of_ofBool {b : Bool} (h : BitVec.ofBool b = 1#1) : b = true := by
  revert h
  revert b
  decide

/-- A finite entry is a real number. -/
theorem finite_at {s : Shape} (x : FVec Ideal s .f32) (h : S_.BroadcastsInDim s (![] : Fin 0 → Fin s.rank)) (i : s.Idx)
    (e : finite x h i = 1#1) : ∃ r : ℝ, x i = (r : EReal) := by
  have k : BitVec.ofBool (decide (max (x i : EReal) (-(x i)) < Ideal.ofBits .f32 0x7F800000#32)) = 1#1 := e
  have k := of_decide_eq_true (of_ofBool k)
  rw [ofBits_top, max_lt_iff] at k
  refine ⟨(x i : EReal).toReal, (EReal.coe_toReal k.1.ne fun hb => ?_).symm⟩
  have := k.2
  rw [hb] at this
  exact absurd this (by simp)

/-- A draw that passes the test is a real number in [0, 1). -/
theorem drawn_at (u : FVec Ideal S16x900x900 .f32) (i : S16x900x900.Idx) (e : drawn u i = 1#1) :
    ∃ r : ℝ, 0 ≤ r ∧ r < 1 ∧ u i = (r : EReal) := by
  have k : IntOp.andi (BitVec.ofBool (decide (Ideal.ofBits .f32 0x00000000#32 ≤ (u i : EReal))))
      (BitVec.ofBool (decide ((u i : EReal) < Ideal.ofBits .f32 0x3F800000#32))) = 1#1 := e
  obtain ⟨h₀, h₁⟩ := IntOp.andi_eq_one.1 k
  have h₀ := of_decide_eq_true (of_ofBool h₀)
  have h₁ := of_decide_eq_true (of_ofBool h₁)
  rw [Ideal.ofBits_zero_f32] at h₀
  rw [Ideal.ofBits_one_f32] at h₁
  have hr : (((u i : EReal).toReal : ℝ) : EReal) = u i :=
    EReal.coe_toReal (h₁.trans (EReal.coe_lt_top 1)).ne (lt_of_lt_of_le EReal.bot_lt_zero h₀).ne'
  rw [← hr] at h₀ h₁
  exact ⟨_, EReal.coe_nonneg.mp h₀, by exact_mod_cast h₁, hr.symm⟩

/-- A row that holds at most 24 set bits, by its lanes. -/
theorem within_of {s t u : Shape} {axes : List (Fin s.rank)} (p : IVec s 1) (init : IVec u 32) (lim : IVec t 32) (hlt : 1 < 32) (h : s.ReducesTo axes t)
    (hu : 0 < u.numel) (j : t.Idx) (hi : ∀ i, init i = 0#32) (e : Fin 900 → s.Idx) (he : Function.Injective e)
    (hd : ∀ i, h.drop i = j ↔ ∃ l, i = e l)
    (hlim : lim j = 24#32) (hall : within p init lim hlt h hu j = 1#1) :
    (Finset.univ.filter fun l => p (e l) = 1#1).card ≤ 24 := by
  classical
  have hle : IntOp.cmpi .sle (Host.reduce IntOp.addi (extui 32 p hlt) init h hu j) (lim j) = 1#1 := hall
  rw [Host.reduce_eq_fold, hi, hlim] at hle
  have hs : (Finset.univ.filter fun i => h.drop i = j).fold IntOp.addi (0#32) (extui 32 p hlt)
      = BitVec.ofNat 32 (Finset.univ.filter fun l => p (e l) = 1#1).card := by
    refine (IndicatorCount.fold_addi_setWidth_eq_card p _).trans (congrArg _ ?_)
    rw [← Finset.card_image_of_injective _ he]
    congr 1
    ext i
    simp only [Finset.mem_filter, Finset.mem_univ, true_and, Finset.mem_image, hd]
    constructor
    · rintro ⟨⟨l, rfl⟩, hp⟩
      exact ⟨l, hp, rfl⟩
    · rintro ⟨l, hp, rfl⟩
      exact ⟨⟨l, rfl⟩, hp⟩
  have hc : (Finset.univ.filter fun l => p (e l) = 1#1).card ≤ 900 := (Finset.card_le_univ _).trans (by simp)
  rw [hs] at hle
  generalize (Finset.univ.filter fun l => p (e l) = 1#1).card = c at hle hc ⊢
  have k : BitVec.sle (BitVec.ofNat 32 c) 24#32 = true := of_ofBool hle
  rw [BitVec.sle_iff_toInt_le, BitVec.toInt_ofNat', Int.bmod_eq_of_le (by omega) (by omega)] at k
  have : (24#32 : BitVec 32).toInt = 24 := by decide
  omega

/-- The greatest entry of a row of real entries. -/
theorem rowMax_at (g : FVec Ideal S16x900x900 .f32) (n : Fin 16) (t : Fin 900) (g' : Fin 900 → ℝ)
    (hg : ∀ l, g (ix3 n t l) = (g' l : EReal)) : rowMax g (ix2 n t) = (most g' : EReal) := by
  unfold rowMax
  refine reduce_max_eq g _ _ _ _ _ Cert.ReferenceIdeal.Value.start_at (fun i hi => ?_) ?_
  · obtain ⟨l, rfl⟩ := (Cert.ReferenceIdeal.Value.drop_row i n t).mp hi
    rw [hg]
    exact EReal.coe_le_coe_iff.mpr (Finset.le_sup' g' (Finset.mem_univ l))
  · obtain ⟨M, -, hM⟩ := Finset.exists_mem_eq_sup' ⟨0, Finset.mem_univ _⟩ g'
    exact ⟨ix3 n t M, (Cert.ReferenceIdeal.Value.drop_row _ n t).mpr ⟨M, rfl⟩, by rw [hg, most, hM]⟩

/-- Whether an entry is above its row's number less one. -/
theorem near_at (g : FVec Ideal S16x900x900 .f32) (m : FVec Ideal S16x900 .f32) (n : Fin 16) (t l : Fin 900) :
    near g m (ix3 n t l) = BitVec.ofBool (decide ((m (ix2 n t) - 1 : EReal) < g (ix3 n t l))) := by
  pointwise [near]

/-- The count's lanes. -/
theorem few_at (p : IVec S16x900x900 1) (n : Fin 16) (t : Fin 900) (e : few p (ix2 n t) = 1#1) :
    (Finset.univ.filter fun l => p (ix3 n t l) = 1#1).card ≤ 24 :=
  within_of p (constantI S_ 32 0#32) _ natLt_1_32 reducesTo_S16x900x900_S16x900_d2 h_S_ (ix2 n t) (fun _ => rfl)
    (fun l => ix3 n t l) (fun a b h => (congrFun h 2 : a = b)) (fun i => Cert.ReferenceIdeal.Value.drop_row i n t) rfl e

/-- A row of real noises that passes the test has at most 24 above the row's greatest less one. -/
theorem few_near (g : FVec Ideal S16x900x900 .f32) (n : Fin 16) (t : Fin 900) (g' : Fin 900 → ℝ)
    (hg : ∀ l, g (ix3 n t l) = (g' l : EReal)) (e : few (near g (rowMax g)) (ix2 n t) = 1#1) :
    (Finset.univ.filter fun l => most g' - 1 < g' l).card ≤ 24 := by
  have hn : ∀ l, near g (rowMax g) (ix3 n t l) = 1#1 ↔ most g' - 1 < g' l := fun l => by
    rw [near_at, rowMax_at g n t g' hg, hg, ← EReal.coe_one, ← EReal.coe_sub]
    simp only [EReal.coe_lt_coe_iff]
    by_cases h : most g' - 1 < g' l <;> simp [h]
  have := few_at _ n t e
  simpa only [hn] using this

/-- The precondition, read. -/
theorem read (a₀ a₁ : FVec Ideal S4x4x1x30x30 .f32) (a₂ : FVec Ideal S3x1 .f32) (a₃ : FVec Ideal S3 .f32) (a₄ : FVec Ideal S1x1 .f32)
    (a₅ a₆ a₇ : FVec Ideal S1 .f32) (a₈ : FVec Ideal S_ .f32) (a₉ : FVec Ideal S16x900x900 .f32)
    (h : fn (F := Ideal) a₀ a₁ a₂ a₃ a₄ a₅ a₆ a₇ a₈ a₉ = fun _ => 1#1) :
    (∀ i, ∃ r : ℝ, a₀ i = (r : EReal)) ∧ (∀ i, ∃ r : ℝ, a₁ i = (r : EReal)) ∧ (∀ i, ∃ r : ℝ, a₂ i = (r : EReal))
      ∧ (∀ i, ∃ r : ℝ, a₃ i = (r : EReal)) ∧ (∀ i, ∃ r : ℝ, a₄ i = (r : EReal)) ∧ (∀ i, ∃ r : ℝ, a₅ i = (r : EReal))
      ∧ a₇ (ix1 0) = (0 : EReal) ∧ (∀ i, ∃ r : ℝ, 0 ≤ r ∧ r < 1 ∧ a₉ i = (r : EReal))
      ∧ ∀ j, few (near (noise a₉) (rowMax (noise a₉))) j = 1#1 := by
  have split : ∀ x y : IVec S_ 1, andi x y ix0 = 1#1 → x ix0 = 1#1 ∧ y ix0 = 1#1 := fun x y e => IntOp.andi_eq_one.1 e
  have h := congrFun h ix0
  rw [fn_eq] at h
  obtain ⟨h, hn⟩ := split _ _ h
  obtain ⟨h, hu⟩ := split _ _ h
  obtain ⟨h, hb⟩ := split _ _ h
  obtain ⟨h, h₅⟩ := split _ _ h
  obtain ⟨h, h₄⟩ := split _ _ h
  obtain ⟨h, h₃⟩ := split _ _ h
  obtain ⟨h, h₂⟩ := split _ _ h
  obtain ⟨h₀, h₁⟩ := split _ _ h
  refine ⟨fun i => finite_at _ _ i (all_at _ _ h₀ i), fun i => finite_at _ _ i (all_at _ _ h₁ i),
    fun i => finite_at _ _ i (all_at _ _ h₂ i), fun i => finite_at _ _ i (all_at _ _ h₃ i), fun i => finite_at _ _ i (all_at _ _ h₄ i),
    fun i => finite_at _ _ i (all_at _ _ h₅ i), ?_, fun i => drawn_at _ i (all_at _ _ hu i), all_at _ _ hn⟩
  have k : BitVec.ofBool (decide ((a₇ (ix1 0) : EReal) = Ideal.ofBits .f32 0x00000000#32)) = 1#1 := all_at _ _ hb (ix1 0)
  rw [← Ideal.ofBits_zero_f32]
  exact of_decide_eq_true (of_ofBool k)

end Cert.Pre_tame.Value

end
-- ==== Proof.Agree.lean ====
/-
  Under the precondition the kernel's launch and the reference end with the same sequences.
-/
module

public import proofs.«01_k».proof.Proof.Operands
public import proofs.«01_k».proof.Proof.RefValue
public import proofs.«01_k».proof.Proof.Tame
public import proofs.«01_k».proof.Proof.Cand
public import proofs.«01_k».proof.Proof.Gen.Pre_tame

@[expose] public section

set_option maxRecDepth 16384

noncomputable section

namespace Cert.Draw

open Idealize.ShloMosaic Idealize.SL.Sem

/-- Real arguments of the program: the patches' tokens as sequences, the weights and the uniform draws. -/
structure Reals (a₀ a₁ : FVec Ideal Cert.KernelIdeal.S4x4x1x30x30 .f32) (a₂ : FVec Ideal Cert.KernelIdeal.S3x1 .f32)
    (a₃ : FVec Ideal Cert.KernelIdeal.S3 .f32) (a₄ : FVec Ideal Cert.KernelIdeal.S1x1 .f32)
    (a₅ : FVec Ideal Cert.KernelIdeal.S1 .f32) (a₉ : FVec Ideal Cert.KernelIdeal.S16x900x900 .f32) (n : Fin 16) where
  /-- the tokens of the radar patch -/
  r : Fin 900 → ℝ
  /-- the tokens of the other patch -/
  d : Fin 900 → ℝ
  /-- the projection's weights -/
  w : Fin 3 → ℝ
  /-- the projection's biases -/
  b : Fin 3 → ℝ
  /-- the output projection's weight -/
  o : ℝ
  /-- the output projection's bias -/
  p : ℝ
  /-- the uniform draws -/
  u : Fin 900 → Fin 900 → ℝ
  hr : ∀ t, Cert.KernelIdeal.Value.seqs a₀ (ix2 n t) = ((r t : ℝ) : EReal)
  hd : ∀ t, Cert.KernelIdeal.Value.seqs a₁ (ix2 n t) = ((d t : ℝ) : EReal)
  hw : ∀ i, a₂ (ix2 i 0) = ((w i : ℝ) : EReal)
  hb : ∀ i, a₃ (ix1 i) = ((b i : ℝ) : EReal)
  ho : a₄ (ix2 0 0) = (o : EReal)
  hp : a₅ (ix1 0) = (p : EReal)
  hu : ∀ t l, a₉ (ix3 n t l) = ((u t l : ℝ) : EReal)
  hu₀ : ∀ t l, 0 ≤ u t l
  hu₁ : ∀ t l, u t l < 1

/-- The precondition gives real arguments. -/
theorem reals (a₀ a₁ : FVec Ideal Cert.KernelIdeal.S4x4x1x30x30 .f32) (a₂ : FVec Ideal Cert.KernelIdeal.S3x1 .f32)
    (a₃ : FVec Ideal Cert.KernelIdeal.S3 .f32) (a₄ : FVec Ideal Cert.KernelIdeal.S1x1 .f32)
    (a₅ a₆ a₇ : FVec Ideal Cert.KernelIdeal.S1 .f32) (a₈ : FVec Ideal Cert.KernelIdeal.S_ .f32)
    (a₉ : FVec Ideal Cert.KernelIdeal.S16x900x900 .f32)
    (h : Cert.Pre_tame.fn (F := Ideal) a₀ a₁ a₂ a₃ a₄ a₅ a₆ a₇ a₈ a₉ = fun _ => 1#1) (n : Fin 16) :
    Nonempty (Reals a₀ a₁ a₂ a₃ a₄ a₅ a₉ n) := by
  obtain ⟨h₀, h₁, h₂, h₃, h₄, h₅, -, h₉, -⟩ := Cert.Pre_tame.Value.read _ _ _ _ _ _ _ _ _ _ h
  choose r hr using h₀
  choose d hd using h₁
  choose w hw using h₂
  choose b hb using h₃
  choose o ho using h₄
  choose p hp using h₅
  choose u hu₀ hu₁ hu using h₉
  exact ⟨{
    r := fun t => _, d := fun t => _, w := fun i => _, b := fun i => _, o := _, p := _, u := fun t l => u (ix3 n t l)
    hr := fun t => (Cert.KernelIdeal.Value.seqs_at a₀ n t).trans (hr _)
    hd := fun t => (Cert.KernelIdeal.Value.seqs_at a₁ n t).trans (hd _)
    hw := fun i => hw _
    hb := fun i => hb _
    ho := ho _
    hp := hp _
    hu := fun t l => hu _
    hu₀ := fun t l => hu₀ _
    hu₁ := fun t l => hu₁ _ }⟩

/-- The reference reads the same sequences of the patches. -/
theorem seqs_same (x : FVec Ideal Cert.KernelIdeal.S4x4x1x30x30 .f32) (n : Fin 16) (t : Fin 900) :
    Cert.ReferenceIdeal.Value.seqs x (ix3 n t 0) = Cert.KernelIdeal.Value.seqs x (ix2 n t) := by
  rw [Cert.KernelIdeal.Value.seqs_at]
  pointwise [Cert.ReferenceIdeal.Value.seqs]

/-- The three programs take the same noise of the draws. -/
theorem noise_same (u : FVec Ideal Cert.KernelIdeal.S16x900x900 .f32) :
    Cert.KernelIdeal.Value.noise u = Cert.ReferenceIdeal.Value.noise u ∧ Cert.Pre_tame.Value.noise u = Cert.ReferenceIdeal.Value.noise u :=
  ⟨rfl, rfl⟩

/-- Token `l` of sequence `n`: the kernel's launch leaves there what the reference ends with. -/
theorem agree (a₀ a₁ : FVec Ideal Cert.KernelIdeal.S4x4x1x30x30 .f32) (a₂ : FVec Ideal Cert.KernelIdeal.S3x1 .f32)
    (a₃ : FVec Ideal Cert.KernelIdeal.S3 .f32) (a₄ : FVec Ideal Cert.KernelIdeal.S1x1 .f32)
    (a₅ a₆ a₇ : FVec Ideal Cert.KernelIdeal.S1 .f32) (a₈ : FVec Ideal Cert.KernelIdeal.S_ .f32)
    (a₉ : FVec Ideal Cert.KernelIdeal.S16x900x900 .f32)
    (h : Cert.Pre_tame.fn (F := Ideal) a₀ a₁ a₂ a₃ a₄ a₅ a₆ a₇ a₈ a₉ = fun _ => 1#1) (n : Fin 16) (l : Fin 900) :
    Cert.KernelIdeal.Value.block
        (shapeCast Cert.KernelIdeal.S16x900x1 (Cert.KernelIdeal.Value.seqs a₀) Cert.KernelIdeal.Gen.facts.shapeCasts_S16x900_S16x900x1)
        (shapeCast Cert.KernelIdeal.S16x1x900 (Cert.KernelIdeal.Value.seqs a₁) Cert.KernelIdeal.Gen.facts.shapeCasts_S16x900_S16x1x900)
        (Cert.KernelIdeal.Value.candTok a₁ a₉) (Cert.KernelIdeal.Value.candNoise a₉)
        (sitofp (F := Ideal) .f32 (Cert.KernelIdeal.Value.lanes a₉)) (Cert.KernelIdeal.Value.params a₂ a₃) n (ix3 0 0 l)
      = Cert.ReferenceIdeal.Value.sequences a₀ a₁ a₂ a₃ a₄ a₅ a₆ a₇ a₈ a₉ (ix3 n l 0) := by
  obtain ⟨x⟩ := reals _ _ _ _ _ _ _ _ _ _ h n
  obtain ⟨-, -, -, -, -, -, h₇, -, hn⟩ := Cert.Pre_tame.Value.read _ _ _ _ _ _ _ _ _ _ h
  obtain ⟨nk, np⟩ := noise_same a₉
  have hg : ∀ t j, Cert.ReferenceIdeal.Value.noise a₉ (ix3 n t j) = ((gumbel eps (x.u t j) : ℝ) : EReal) := fun t j =>
    Cert.ReferenceIdeal.Value.noise_at a₉ n t j _ (x.hu t j) (x.hu₀ t j) (x.hu₁ t j)
  choose c hc hmax hcand using fun t => Cert.KernelIdeal.Value.candidates a₁ a₉ n t
  choose J hJ using fun t => exists_first fun j =>
    weights x.r x.d (x.w 0) (x.w 1) (x.b 0) (x.b 1) t j + gumbel eps (x.u t j)
  obtain ⟨p₀, p₁, p₂, p₃⟩ := Cert.KernelIdeal.Value.params_at a₂ a₃
  have hk : ∀ t, ∃ k, c t k = J t := fun t =>
    first_is_candidate _ _ (fun j => soft_pos _ j) (fun j => soft_le_one _ j) (c t) (hc t)
      (fun j hj k => by
        have e := hmax t j hj k
        rw [nk, hg, hg] at e
        exact EReal.coe_le_coe_iff.1 e)
      (Cert.Pre_tame.Value.few_near _ n t _ (fun j => by rw [np]; exact hg t j) (hn _)) (J t) (hJ t)
  refine (Cert.KernelIdeal.Value.block_at _ _ _ _ _ _ n l x.r x.d (x.w 0) (x.w 1) (x.b 0) (x.b 1)
    (fun t j => gumbel eps (x.u t j)) c J ?_ ?_ ?_ ?_ ?_ ?_ ?_ ?_ ?_ hJ hk).trans
    (Cert.ReferenceIdeal.Value.sequences_at a₀ a₁ a₂ a₃ a₄ a₅ a₆ a₇ a₈ a₉ n l x.r x.d x.w x.b x.o x.p
      (fun t j => gumbel eps (x.u t j)) J ?_ ?_ x.hw x.hb x.ho x.hp h₇ hg hJ).symm
  · exact fun t => (Cert.KernelIdeal.Value.tokens_col_at _ n t).trans (x.hr t)
  · exact fun j => (Cert.KernelIdeal.Value.tokens_row_at _ n j).trans (x.hd j)
  · exact p₀.trans (x.hw 0)
  · exact p₁.trans (x.hw 1)
  · exact p₂.trans (x.hb 0)
  · exact p₃.trans (x.hb 1)
  · exact fun t k => (hcand t k).2.2.trans (x.hd _)
  · exact fun t k => (hcand t k).2.1.trans ((congrFun nk _).trans (hg t _))
  · exact fun t k => Cert.KernelIdeal.Value.lane_number _ n t k _ (hcand t k).1
  · exact fun t => (seqs_same a₀ n t).trans (x.hr t)
  · exact fun t => (seqs_same a₁ n t).trans (x.hd t)

end Cert.Draw
-- ==== Proof.Algebra.lean ====
/-
  The kernel's program and the reference end with the same result.
-/
module

public import proofs.«01_k».proof.Proof.Agree
public import Idealize.ShloMosaic.Adequacy
public import Idealize.ShloMosaic.Init

@[expose] public section

set_option maxRecDepth 16384

noncomputable section

namespace Cert.Draw

open Idealize.ShloMosaic Idealize.SL.Sem

/-- Sequences held as rows and sequences held as columns give one array of the patches. -/
theorem patches_same (x : FVec Ideal Cert.KernelIdeal.S16x1x900 .f32) (y : FVec Ideal Cert.ReferenceIdeal.S16x900x1 .f32)
    (h : ∀ n l, x (ix3 n 0 l) = y (ix3 n l 0)) :
    shapeCast Cert.KernelIdeal.S4x4x900 x Cert.KernelIdeal.Gen.facts.shapeCasts_S16x1x900_S4x4x900
      = shapeCast Cert.ReferenceIdeal.S4x4x900 (Cert.ReferenceIdeal.Value.flat y) Cert.ReferenceIdeal.Gen.facts.shapeCasts_S16x900_S4x4x900 := by
  funext j
  idx_vars j
  pointwise [Cert.ReferenceIdeal.Value.flat]
  exact h _ _

variable (m : (ℓ : Loc Cert.KernelIdeal.nD Cert.KernelIdeal.τ Cert.KernelIdeal.sig) → Buf (Elt Ideal) ℓ)

/-- The launch's output and the reference's sequences are one array of the patches. -/
theorem output_same (hpre : Cert.Pre_KernelIdeal_tame m) (c : Dev Cert.KernelIdeal.nD) :
    shapeCast Cert.KernelIdeal.S4x4x900 ((Cert.KernelIdeal.Gen.dats m 0 c).arrAt 6 Cert.KernelIdeal.cfg0.N : FVec Ideal Cert.KernelIdeal.S16x1x900 .f32)
        Cert.KernelIdeal.Gen.facts.shapeCasts_S16x1x900_S4x4x900
      = shapeCast Cert.ReferenceIdeal.S4x4x900 (Cert.ReferenceIdeal.Value.flat (Cert.ReferenceIdeal.Value.sequences
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))))
        Cert.ReferenceIdeal.Gen.facts.shapeCasts_S16x900_S4x4x900 := by
  obtain ⟨o₁, o₂, o₃, o₄, o₅, o₆⟩ := Cert.KernelIdeal.Value.operands m c
  have e := Cert.KernelIdeal.Value.final m c
  rw [o₁, o₂, o₃, o₄, o₅, o₆] at e
  rw [e]
  exact patches_same _ _ fun n l => agree _ _ _ _ _ _ _ _ _ _ (hpre c) n l

end Cert.Draw

namespace Cert.Proof

open Idealize.ShloMosaic Idealize.SL.Sem

/-- From memories agreeing on tame arguments both programs run and end with the same result. -/
theorem algebraic : Cert.algebraic_KernelIdeal_ReferenceIdeal_pre_tame := by
  pair_intro
  · run_from (Cert.KernelIdeal.Gen.run_main m g) & (Cert.KernelIdeal.Gen.unchanged m g)
  · refine θ_run_mono (Cert.ReferenceIdeal.Value.run m' g') fun r h c => ?_
    simp only [h c]
    refine ⟨?_, Cert.ReferenceIdeal.Value.args _⟩
    obtain ⟨h₀, h₁, h₂, h₃, h₄, h₅, h₆, h₇, h₈, h₉⟩ := hagree c
    rw [Cert.ReferenceIdeal.Value.result, Cert.KernelIdeal.Value.tail, Cert.Draw.output_same m hpre c]
    simp only [StableHlo.launchContents_devRef, h₀, h₁, h₂, h₃, h₄, h₅, h₆, h₇, h₈, h₉]
    rfl

end Cert.Proof
-- ==== Proof.lean ====
/-
  The claims, assembled: the frames, the ideal form being the kernel's own program, and the equality with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tame
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The kernel, its ideal form and the reference run and leave their arguments unchanged, the ideal form is the kernel's
    own program, and on tame arguments it ends with the reference's result. -/
theorem claim : Cert.Claim := ⟨Cert.Kernel.Gen.facts, Cert.KernelIdeal.Gen.facts, Cert.ReferenceIdeal.Gen.facts, Cert.Pre_tame.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Value.frame m ρ trivial, fun m ρ _ => Cert.ReferenceIdeal.Value.frame m ρ trivial, trivial, algebraic⟩

end Cert.Proof

end
